-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![4096, 512]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 512]⟩ ⟨2, ![4096, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S2x1x512 : Shape := ⟨3, ![2, 1, 512]⟩
abbrev S2 : Shape := ⟨1, ![2]⟩
abbrev S_ : Shape := ⟨0, ![]⟩
abbrev S1x512 : Shape := ⟨2, ![1, 512]⟩
abbrev S1x1x512 : Shape := ⟨3, ![1, 1, 512]⟩
abbrev S1 : Shape := ⟨1, ![1]⟩
abbrev S1022x512 : Shape := ⟨2, ![1022, 512]⟩
abbrev S2x512 : Shape := ⟨2, ![2, 512]⟩

abbrev nBuf : Space → Nat
  | .hbm => 2
  | .vmem => 4
  | .smem => 0
  | _ => 0

abbrev bufTy : (tb : Table) → Fin (tcTables nBuf tb) → BufTy
  | .hbm, ⟨0, _⟩ => ⟨S1024x512, .bf16⟩
  | .hbm, ⟨1, _⟩ => ⟨S1024x512, .bf16⟩
  | .local _ .vmem, ⟨0, _⟩ => ⟨S1024x512, .bf16⟩
  | .local _ .vmem, ⟨1, _⟩ => ⟨S1024x512, .bf16⟩
  | .local _ .vmem, ⟨2, _⟩ => ⟨S2x1x512, .bf16⟩
  | .local _ .vmem, ⟨3, _⟩ => ⟨S2x1x512, .bf16⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  (ofTc nBuf bufTy 1 6 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_6 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v5 : BitVec 32 := Scalar.subi v2 c1_i32_0
  let c0_i32_2 : BitVec 32 := 0#32
  let v8 : BitVec 32 := Scalar.maxsi v5 c0_i32_2
  let c1_i32_5 : BitVec 32 := 1#32
  let v10 : BitVec 32 := Scalar.muli v8 c1_i32_5
  let v11 : BitVec 32 := Scalar.addi c0_i32_6 v10
  v11.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v6 : BitVec 32 := Scalar.addi v2 c1_i32_1
  let c3_i32_3 : BitVec 32 := 3#32
  let v9 : BitVec 32 := Scalar.minsi v6 c3_i32_3
  let c1_i32_8 : BitVec 32 := 1#32
  let v12 : BitVec 32 := Scalar.muli v9 c1_i32_8
  let v13 : BitVec 32 := Scalar.addi c0_i32_9 v12
  v13.toNat
def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v4 : BitVec 1 := Scalar.cmpi .slt v2 c3_i32
  let v14 : BitVec 32 := Scalar.extui v4
  let c0_i32_10 : BitVec 32 := 0#32
  let v15 : BitVec 1 := Scalar.cmpi .ne v14 c0_i32_10
  v15

def k0_dev3 (d0 : Dev nD) : Nat :=
  let c0_i32_35 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v6 : BitVec 32 := Scalar.addi v2 c1_i32_1
  let c3_i32_3 : BitVec 32 := 3#32
  let v9 : BitVec 32 := Scalar.minsi v6 c3_i32_3
  let c1_i32_34 : BitVec 32 := 1#32
  let v50 : BitVec 32 := Scalar.muli v9 c1_i32_34
  let v51 : BitVec 32 := Scalar.addi c0_i32_35 v50
  v51.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v3 : BitVec 1 := Scalar.cmpi .sgt v2 c0_i32
  let v16 : BitVec 32 := Scalar.extui v3
  let c0_i32_11 : BitVec 32 := 0#32
  let v17 : BitVec 1 := Scalar.cmpi .ne v16 c0_i32_11
  v17

def k0_dev4 (d0 : Dev nD) : Nat :=
  let c0_i32_36 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v5 : BitVec 32 := Scalar.subi v2 c1_i32_0
  let c0_i32_2 : BitVec 32 := 0#32
  let v8 : BitVec 32 := Scalar.maxsi v5 c0_i32_2
  let c1_i32_35 : BitVec 32 := 1#32
  let v50 : BitVec 32 := Scalar.muli v8 c1_i32_35
  let v51 : BitVec 32 := Scalar.addi c0_i32_36 v50
  v51.toNat
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x512 : Shape := ⟨2, ![4096, 512]⟩
abbrev S4094x512 : Shape := ⟨2, ![4094, 512]⟩
abbrev S_ : Shape := ⟨0, ![]⟩
abbrev S1x512 : Shape := ⟨2, ![1, 512]⟩

abbrev nBuf : Space → Nat
  | .hbm => 20
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .f32⟩
  | .hbm, ⟨2, _⟩ => ⟨S4094x512, .f32⟩
  | .hbm, ⟨3, _⟩ => ⟨S_, .f32⟩
  | .hbm, ⟨4, _⟩ => ⟨S4094x512, .f32⟩
  | .hbm, ⟨5, _⟩ => ⟨S4094x512, .f32⟩
  | .hbm, ⟨6, _⟩ => ⟨S4094x512, .f32⟩
  | .hbm, ⟨7, _⟩ => ⟨S_, .f32⟩
  | .hbm, ⟨8, _⟩ => ⟨S4094x512, .f32⟩
  | .hbm, ⟨9, _⟩ => ⟨S4094x512, .f32⟩
  | .hbm, ⟨10, _⟩ => ⟨S4094x512, .f32⟩
  | .hbm, ⟨11, _⟩ => ⟨S4094x512, .f32⟩
  | .hbm, ⟨12, _⟩ => ⟨S_, .f32⟩
  | .hbm, ⟨13, _⟩ => ⟨S4094x512, .f32⟩
  | .hbm, ⟨14, _⟩ => ⟨S4094x512, .f32⟩
  | .hbm, ⟨15, _⟩ => ⟨S4094x512, .f32⟩
  | .hbm, ⟨16, _⟩ => ⟨S1x512, .f32⟩
  | .hbm, ⟨17, _⟩ => ⟨S1x512, .f32⟩
  | .hbm, ⟨18, _⟩ => ⟨S4096x512, .f32⟩
  | .hbm, ⟨19, _⟩ => ⟨S4096x512, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_1 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== Proof.KernelIdeal.Cells.lean ====
/-
  The four devices of the line, the buffers the stencil kernel moves, and the protocol of its five semaphores.

  Device `c` first copies the rows it sends into two staged slots. It hands its last row to device `c + 1` (into that device's halo slot 0) and its first row to device `c - 1`
  (into that device's halo slot 1); device 3 has no right neighbour and device 0 no left one. Before it sends, each
  device signals both neighbours' barrier semaphore, an end device signalling itself in place of the neighbour it lacks,
  and waits for two signals. A signal to a neighbour hands over the halo slot that neighbour will write.

  The cells of a device: its barrier semaphore (two signals of one unit), and four transfer semaphores, each counting one
  row's bytes where the transfer exists and nothing where it does not.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.VecWindow

@[expose] public section

noncomputable section

namespace Cert.KernelIdeal.Halo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The two ghost algebras: the launch's own, and the rounds of the kernel's cells, whose duties are named by a `Bool`. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The line of devices -/

/-- Device `c` has a left neighbour; a right one. -/
abbrev HasL (c : Dev nD) : Prop := 0 < c.val
abbrev HasR (c : Dev nD) : Prop := c.val < 3

/-- The neighbours, the ends their own: whom the entry signals address. -/
def lft (c : Dev nD) : Dev nD := ⟨c.val - 1, lt_of_le_of_lt (Nat.sub_le _ _) c.isLt⟩
def rgt (c : Dev nD) : Dev nD := ⟨min (c.val + 1) 3, lt_of_le_of_lt (Nat.min_le_right _ _) (by decide)⟩
/-- The neighbours around a ring: whom a transfer addresses, where it exists. -/
def prv (c : Dev nD) : Dev nD := ⟨(c.val + 3) % 4, Nat.mod_lt _ (by decide)⟩
def nxt (c : Dev nD) : Dev nD := ⟨(c.val + 1) % 4, Nat.mod_lt _ (by decide)⟩

theorem prv_nxt : ∀ c : Dev nD, prv (nxt c) = c := by decide
theorem nxt_prv : ∀ c : Dev nD, nxt (prv c) = c := by decide
theorem lft_eq : ∀ c : Dev nD, HasL c → lft c = prv c := by decide
theorem rgt_eq : ∀ c : Dev nD, HasR c → rgt c = nxt c := by decide
theorem lft_end : ∀ c : Dev nD, ¬ HasL c → lft c = c := by decide
theorem rgt_end : ∀ c : Dev nD, ¬ HasR c → rgt c = c := by decide
theorem hasL_nxt : ∀ c : Dev nD, HasL (nxt c) ↔ HasR c := by decide
theorem hasR_prv : ∀ c : Dev nD, HasR (prv c) ↔ HasL c := by decide
def ring : Dev nD ≃ Dev nD := ⟨nxt, prv, prv_nxt, nxt_prv⟩

/-- The devices and conditions the kernel computes are these. -/
theorem dev1_eq : ∀ c : Dev nD, (⟨k0_dev1 c, k0_dev1_lt c⟩ : Dev nD) = lft c := by decide +kernel
theorem dev2_eq (c : Dev nD) : (⟨k0_dev2 c, k0_dev2_lt c⟩ : Dev nD) = rgt c := Fin.ext (k0_dev2_eq c)
theorem dev3_eq (c : Dev nD) (h : k0_cond1 c = 1#1) (hR : HasR c) : (⟨k0_dev3 c, k0_dev3_lt c h⟩ : Dev nD) = nxt c := by
  rw [← rgt_eq c hR]; exact Fin.ext (k0_dev3_eq c)
theorem dev4_val : ∀ c : Dev nD, k0_cond2 c = 1#1 → k0_dev4 c = (prv c).val := by decide +kernel
theorem dev4_eq (c : Dev nD) (h : k0_cond2 c = 1#1) : (⟨k0_dev4 c, k0_dev4_lt c h⟩ : Dev nD) = prv c := Fin.ext (dev4_val c h)
theorem cond1_iff : ∀ c : Dev nD, k0_cond1 c = 1#1 ↔ HasR c := by decide +kernel
theorem cond2_iff : ∀ c : Dev nD, k0_cond2 c = 1#1 ↔ HasL c := by decide +kernel

/-! ## The buffers and the cells -/

abbrev xM : Memref sig .tc .vmem S1024x512 .bf16 := Memref.whole cc0_stg0_0
abbrev oM : Memref sig .tc .vmem S1024x512 .bf16 := Memref.whole cc0_stg1_0
abbrev hM : Memref sig .tc .vmem S2x1x512 .bf16 := Memref.whole cc0_scratch0
abbrev rM : Memref sig .tc .vmem S2x1x512 .bf16 := Memref.whole cc0_scratch1

/-- The two slots of the halo and of the staged rows. The halo's slot 0 takes the left neighbour's last row, its slot 1 the
    right neighbour's first; the staged slot 0 holds the row sent to the right, the staged slot 1 the row sent to the left. -/
abbrev rect0 : Rect S2x1x512 := Rect.unit (s := S2x1x512) ![0, 0, 0] S1x1x512.size inb_S2x1x512_S1x1x512_0_0_0
abbrev rect1 : Rect S2x1x512 := Rect.unit (s := S2x1x512) ![1, 0, 0] S1x1x512.size inb_S2x1x512_S1x1x512_1_0_0
abbrev slotL : Memref sig .tc .vmem S1x512 .bf16 := (hM.slice rect0 (fun _ => rfl)).squeeze S1x512 squeezes_S1x1x512_S1x512
abbrev slotR : Memref sig .tc .vmem S1x512 .bf16 := (hM.slice rect1 (fun _ => rfl)).squeeze S1x512 squeezes_S1x1x512_S1x512
abbrev outR : Memref sig .tc .vmem S1x512 .bf16 := (rM.slice rect0 (fun _ => rfl)).squeeze S1x512 squeezes_S1x1x512_S1x512
abbrev outL : Memref sig .tc .vmem S1x512 .bf16 := (rM.slice rect1 (fun _ => rfl)).squeeze S1x512 squeezes_S1x1x512_S1x512

abbrev barS : Sem sig := (SemArray.scalar (sig.barrier 0 rfl) : Sems sig S_).sem
/-- Sent to the right, sent to the left, received from the left, received from the right. -/
abbrev sndR : DmaSem sig := ⟨2, by decide⟩
abbrev sndL : DmaSem sig := ⟨3, by decide⟩
abbrev rcvL : DmaSem sig := ⟨4, by decide⟩
abbrev rcvR : DmaSem sig := ⟨5, by decide⟩

abbrev barCell (c : Dev nD) : GSem nD τ sig := ((c : Thread nD τ), .reg barS)
abbrev sndRCell (c : Dev nD) : GSem nD τ sig := ((c : Thread nD τ), .dma sndR)
abbrev sndLCell (c : Dev nD) : GSem nD τ sig := ((c : Thread nD τ), .dma sndL)
abbrev rcvLCell (c : Dev nD) : GSem nD τ sig := ((c : Thread nD τ), .dma rcvL)
abbrev rcvRCell (c : Dev nD) : GSem nD τ sig := ((c : Thread nD τ), .dma rcvR)

/-- The kernel's own semaphores; all five cells' semaphores, the barrier first. -/
abbrev osem : Fin 4 → SemLoc sig := fun | 0 => .dma sndR | 1 => .dma sndL | 2 => .dma rcvL | 3 => .dma rcvR
abbrev csem : Fin 5 → SemLoc sig := fun | 0 => .reg barS | 1 => .dma sndR | 2 => .dma sndL | 3 => .dma rcvL | 4 => .dma rcvR
abbrev kcell (ck : Dev nD × Fin 5) : GSem nD τ sig := ((ck.1 : Thread nD τ), csem ck.2)

/-- What one row's transfer adds to its semaphores. -/
abbrev N : ℕ := slotL.view.dmaCredit
theorem N_pos : 0 < N := View.dmaCredit_pos _ (by decide)

/-! ## Contents -/

/-- Device `c`'s block of `x` as its staging buffer holds it. -/
def xstg (c : Dev nD) : (cc0_stg0_0 : Ref sig .tc).ty.Contents (Elt F) :=
  (win0_0.blk (0 : Fin 1)).view.read (Elt F) (m ((c : Thread nD τ).loc main_arg0))

/-- Row `k` of a block. -/
abbrev rowOf (x : S1024x512.Idx → Elt F .bf16) (k : ℕ) (inb : ∀ a, (![k, 0] : Fin 2 → ℕ) a + S1x512.size a ≤ S1024x512.size a) :
    S1x512.Idx → Elt F .bf16 := VecWindow.window x ![k, 0] S1x512.size inb
/-- The row the left neighbour sends, the row the right one sends. -/
def fromL (c : Dev nD) : S1x512.Idx → Elt F .bf16 := rowOf (xstg m (prv c)) 1023 inb_S1024x512_S1x512_1023_0
def fromR (c : Dev nD) : S1x512.Idx → Elt F .bf16 := rowOf (xstg m (nxt c)) 0 inb_S1024x512_S1x512_0_0

/-- A device's own share of a row-sized slot, at some contents. -/
def slotPts (v : Memref sig .tc .vmem S1x512 .bf16) (c : Dev nD) (f : Buf (Elt F) (v.view.loc (c : Thread nD τ))) : sProp 𝕄 :=
  v.view.loc (c : Thread nD τ) ↦[v.view.set]{fullShare} f
/-- The slot at any contents; the slot at contents that read as the row `w`. -/
def anySlot (v : Memref sig .tc .vmem S1x512 .bf16) (c : Dev nD) : sProp 𝕄 := iprop(∃ f, slotPts v c f)
def holds (v : Memref sig .tc .vmem S1x512 .bf16) (c : Dev nD) (w : S1x512.Idx → Elt F .bf16) : sProp 𝕄 :=
  iprop(∃ f, ⌜v.view.read (Elt F) f = w⌝ ∗ slotPts v c f)

omit [FloatOps F] in
instance slotPts_storable (v : Memref sig .tc .vmem S1x512 .bf16) (c : Dev nD) (f) : BI.Storable (upEmb : UEmb _ 𝕄) (slotPts (F := F) v c f) := by
  unfold slotPts; infer_instance
omit [FloatOps F] in
instance anySlot_storable (v : Memref sig .tc .vmem S1x512 .bf16) (c : Dev nD) : BI.Storable (upEmb : UEmb _ 𝕄) (anySlot (F := F) v c) := by
  unfold anySlot; infer_instance
omit [FloatOps F] in
instance holds_storable (v : Memref sig .tc .vmem S1x512 .bf16) (c : Dev nD) (w) : BI.Storable (upEmb : UEmb _ 𝕄) (holds (F := F) v c w) := by
  unfold holds; infer_instance

/-! ## The schedule -/

/-- What the right neighbour's signal hands `c`: that neighbour's slot 0. What the left one's hands it: its slot 1. -/
def payFromR (c : Dev nD) : sProp 𝕄 := if HasR c then anySlot slotL (nxt c) else iprop(emp)
def payFromL (c : Dev nD) : sProp 𝕄 := if HasL c then anySlot slotR (prv c) else iprop(emp)

/-- Whether device `c` takes part in the transfer counted by a semaphore. -/
def Active (c : Dev nD) (q : SemLoc sig) : Prop :=
  ((q = .dma sndR ∨ q = .dma rcvR) ∧ HasR c) ∨ ((q = .dma sndL ∨ q = .dma rcvL) ∧ HasL c)
instance (c : Dev nD) (q : SemLoc sig) : Decidable (Active c q) := by unfold Active; infer_instance

/-- What a landing on semaphore `q` of device `c` under the duty `d` carries. -/
def pay (c : Dev nD) (q : SemLoc sig) (d : Bool) : sProp 𝕄 :=
  if q = .reg barS then (if d then payFromR c else payFromL c)
  else if q = .dma sndR then anySlot outR c
  else if q = .dma sndL then anySlot outL c
  else if q = .dma rcvL then holds slotL c (fromL m c)
  else if q = .dma rcvR then holds slotR c (fromR m c)
  else iprop(emp)

/-- One round: a barrier cell has the duties `false` (the signal from the left, or a left end's own) and `true` (from the
    right, or a right end's own); an active transfer semaphore the duty `false` of one row. -/
def rd : Rounds.Schedule (GSem nD τ sig) Bool 𝕄 where
  duties g r := if r = 0 ∧ g.1.2 = .tc then (if g.2 = .reg barS then Finset.univ else if Active g.1.1 g.2 then {false} else ∅) else ∅
  unitless _ := False
  amount g _ _ := if g.2 = .reg barS then 1 else N
  payload g _ d := pay m g.1.1 g.2 d
  amount_pos g _ _ _ := by
    by_cases h : g.2 = .reg barS
    · rw [if_pos h]; exact Nat.one_pos
    · rw [if_neg h]; exact N_pos

instance rd_payload_storable (g : GSem nD τ sig) (r : ℕ) (d : Bool) : BI.Storable (upEmb : UEmb _ 𝕄) ((rd (F := F) m).payload g r d) := by
  show BI.Storable upEmb (pay m g.1.1 g.2 d)
  unfold pay payFromR payFromL
  (repeat' split) <;> infer_instance

section Sched
variable (c : Dev nD)

omit [FloatOps F] in
theorem duties_bar : (rd (F := F) m).duties (barCell c) 0 = Finset.univ := by
  dsimp only [rd]; rw [if_pos ⟨rfl, rfl⟩]; exact if_pos rfl
omit [FloatOps F] in
theorem duties_on (q : DmaSem sig) (h : Active c (.dma q)) : (rd (F := F) m).duties ((c : Thread nD τ), .dma q) 0 = {false} := by
  dsimp only [rd]; rw [if_pos ⟨rfl, rfl⟩, if_neg (fun h => by cases h)]; exact if_pos h
omit [FloatOps F] in
theorem duties_off (q : DmaSem sig) (h : ¬ Active c (.dma q)) : (rd (F := F) m).duties ((c : Thread nD τ), .dma q) 0 = ∅ := by
  dsimp only [rd]; rw [if_pos ⟨rfl, rfl⟩, if_neg (fun h => by cases h)]; exact if_neg h
omit [FloatOps F] in
theorem duties_later (g : GSem nD τ sig) : ∀ r, 1 ≤ r → (rd (F := F) m).duties g r = ∅ :=
  fun r hr => by dsimp only [rd]; rw [if_neg fun h => by omega]
omit [FloatOps F] in
/-- A transfer semaphore of a device without that transfer has no duty in any round. -/
theorem duties_never (q : DmaSem sig) (h : ¬ Active c (.dma q)) : ∀ r, 0 ≤ r → (rd (F := F) m).duties ((c : Thread nD τ), .dma q) r = ∅
  | 0, _ => duties_off m c q h
  | r + 1, _ => duties_later m _ _ (Nat.succ_pos r)

omit [FloatOps F] in
theorem amount_bar (d : Bool) : (rd (F := F) m).amount (barCell c) 0 d = 1 := by dsimp only [rd]; exact if_pos rfl
omit [FloatOps F] in
theorem amount_dma (q : DmaSem sig) (d : Bool) : (rd (F := F) m).amount ((c : Thread nD τ), .dma q) 0 d = N := by
  dsimp only [rd]; exact if_neg (fun h => by cases h)

omit [FloatOps F] in
theorem expect_bar : (rd (F := F) m).expect (barCell c) 0 = 2 := by
  unfold Schedule.expect Schedule.amountOf
  rw [duties_bar, Finset.sum_congr rfl fun d _ => amount_bar m c d, Finset.sum_const, Finset.card_univ, Fintype.card_bool, smul_eq_mul]
omit [FloatOps F] in
theorem expect_dma (q : DmaSem sig) (h : Active c (.dma q)) : (rd (F := F) m).expect ((c : Thread nD τ), .dma q) 0 = N := by
  unfold Schedule.expect Schedule.amountOf; rw [duties_on m c q h, Finset.sum_singleton, amount_dma]

omit [FloatOps F] in
theorem pay_bar_true : pay m c (.reg barS) true = (payFromR c : sProp 𝕄) := by unfold pay; rw [if_pos rfl]; exact if_pos rfl
omit [FloatOps F] in
theorem pay_bar_false : pay m c (.reg barS) false = (payFromL c : sProp 𝕄) := by unfold pay; rw [if_pos rfl]; exact if_neg Bool.false_ne_true
omit [FloatOps F] in
theorem pay_sndR (d : Bool) : pay m c (.dma sndR) d = (anySlot outR c : sProp 𝕄) := by
  unfold pay; rw [if_neg (fun h => by cases h), if_pos rfl]
omit [FloatOps F] in
theorem pay_sndL (d : Bool) : pay m c (.dma sndL) d = (anySlot outL c : sProp 𝕄) := by
  unfold pay; rw [if_neg (fun h => by cases h), if_neg (by decide), if_pos rfl]
omit [FloatOps F] in
theorem pay_rcvL (d : Bool) : pay m c (.dma rcvL) d = holds slotL c (fromL m c) := by
  unfold pay; rw [if_neg (fun h => by cases h), if_neg (by decide), if_neg (by decide), if_pos rfl]
omit [FloatOps F] in
theorem pay_rcvR (d : Bool) : pay m c (.dma rcvR) d = holds slotR c (fromR m c) := by
  unfold pay; rw [if_neg (fun h => by cases h), if_neg (by decide), if_neg (by decide), if_neg (by decide), if_pos rfl]

omit [FloatOps F] in
/-- The barrier round brings both neighbours' slots. -/
theorem rest_bar : bigSep ((rd (F := F) m).duties (barCell c) 0 \ ∅) (fun d => (rd (F := F) m).payload (barCell c) 0 d) = iprop(payFromL c ∗ payFromR c) := by
  rw [Finset.sdiff_empty, duties_bar, bigSep_univ_eq_bigSepL [false, true] (by decide) (by decide), bigSepL_cons_cons, bigSepL_singleton]
  show iprop(pay m c (.reg barS) false ∗ pay m c (.reg barS) true) = _
  rw [pay_bar_false, pay_bar_true]
omit [FloatOps F] in
theorem rest_dma (q : DmaSem sig) (h : Active c (.dma q)) :
    bigSep ((rd (F := F) m).duties ((c : Thread nD τ), .dma q) 0 \ ∅) (fun d => (rd (F := F) m).payload ((c : Thread nD τ), .dma q) 0 d)
      = pay m c (.dma q) false := by
  rw [Finset.sdiff_empty, duties_on m c q h, bigSep_singleton]; rfl

end Sched

theorem active_sndR (c : Dev nD) : Active c (.dma sndR) ↔ HasR c := by
  unfold Active
  exact ⟨fun h => h.elim And.right (fun h => absurd h.1 (by decide)), fun h => .inl ⟨.inl rfl, h⟩⟩
theorem active_rcvR (c : Dev nD) : Active c (.dma rcvR) ↔ HasR c := by
  unfold Active
  exact ⟨fun h => h.elim And.right (fun h => absurd h.1 (by decide)), fun h => .inl ⟨.inr rfl, h⟩⟩
theorem active_sndL (c : Dev nD) : Active c (.dma sndL) ↔ HasL c := by
  unfold Active
  exact ⟨fun h => h.elim (fun h => absurd h.1 (by decide)) And.right, fun h => .inr ⟨.inl rfl, h⟩⟩
theorem active_rcvL (c : Dev nD) : Active c (.dma rcvL) ↔ HasL c := by
  unfold Active
  exact ⟨fun h => h.elim (fun h => absurd h.1 (by decide)) And.right, fun h => .inr ⟨.inr rfl, h⟩⟩

/-! ## What each device owes at launch, and the levels -/

/-- The row a device owes its right neighbour; the one it owes its left. -/
def owR (c : Dev nD) : CellTallies nD τ sig Unit := tallyAt (rcvLCell (nxt c)) () (if HasR c then N else 0)
def owL (c : Dev nD) : CellTallies nD τ sig Unit := tallyAt (rcvRCell (prv c)) () (if HasL c then N else 0)
/-- What it owes after both signals, after the first, and at launch. -/
def O₂ (c : Dev nD) : CellTallies nD τ sig Unit := owL c + owR c
def O₁ (c : Dev nD) : CellTallies nD τ sig Unit := O₂ c + tallyAt (barCell (rgt c)) () 1
def O₀ (c : Dev nD) : CellTallies nD τ sig Unit := O₁ c + tallyAt (barCell (lft c)) () 1

def L (g : GSem nD τ sig) : Finset Unit := if g.1.2 = .tc then {()} else ∅
/-- Barrier cells at 1, receive cells at 2, every other cell at 0. -/
def lv (g : GSem nD τ sig) (_ : Unit) : ℕ := if g.2 = .reg barS then 1 else if g.2 = .dma rcvL ∨ g.2 = .dma rcvR then 2 else 0

theorem L_of_ne (g : GSem nD τ sig) (h : g.1.2 ≠ .tc) : L g = ∅ := if_neg h
theorem L_tc (c : Dev nD) (sm : SemLoc sig) : L ((c : Thread nD τ), sm) = {()} := if_pos rfl

/-- A cell a tally is positive at is the tally's. -/
theorem tally_pos {g g' : GSem nD τ sig} {u : Unit} {n : ℕ} (h : 0 < (tallyAt g' () n : CellTallies nD τ sig Unit) g u) : g = g' := by
  rw [tallyAt_apply] at h
  by_contra hn
  rw [if_neg (fun h' => hn h'.1)] at h
  exact Nat.lt_irrefl 0 h
theorem O₂_pos {c : Dev nD} {g : GSem nD τ sig} {u : Unit} (h : 0 < O₂ c g u) : g = rcvRCell (prv c) ∨ g = rcvLCell (nxt c) := by
  unfold O₂ at h
  rw [Pi.add_apply, Finsupp.add_apply] at h
  rcases Nat.add_pos_iff_pos_or_pos.mp h with h | h
  · exact .inl (tally_pos h)
  · exact .inr (tally_pos h)
theorem O₀_pos {c : Dev nD} {g : GSem nD τ sig} {u : Unit} (h : 0 < O₀ c g u) :
    (g = rcvRCell (prv c) ∨ g = rcvLCell (nxt c)) ∨ g = barCell (rgt c) ∨ g = barCell (lft c) := by
  unfold O₀ O₁ at h
  rw [Pi.add_apply, Finsupp.add_apply, Pi.add_apply, Finsupp.add_apply] at h
  rcases Nat.add_pos_iff_pos_or_pos.mp h with h | h
  · rcases Nat.add_pos_iff_pos_or_pos.mp h with h | h
    · exact .inl (O₂_pos h)
    · exact .inr (.inl (tally_pos h))
  · exact .inr (.inr (tally_pos h))

theorem lv_bar (c : Dev nD) (u : Unit) : lv (barCell c) u = 1 := if_pos rfl
theorem lv_rcvL (c : Dev nD) (u : Unit) : lv (rcvLCell c) u = 2 := by unfold lv; rw [if_neg (fun h => by cases h)]; exact if_pos (.inl rfl)
theorem lv_rcvR (c : Dev nD) (u : Unit) : lv (rcvRCell c) u = 2 := by unfold lv; rw [if_neg (fun h => by cases h)]; exact if_pos (.inr rfl)

omit [FloatOps F] in
/-- A staging semaphore may be waited for at launch and at the end. -/
theorem mayWait_stage (c : Dev nD) (q : DmaSem sig) (hq : ¬ (SemLoc.dma q = (.dma rcvL : SemLoc sig) ∨ SemLoc.dma q = (.dma rcvR : SemLoc sig)))
    (O : CellTallies nD τ sig Unit) (hO : O = O₀ c ∨ O = 0) : (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with (rfl | rfl) | rfl | rfl <;> exact Finset.mem_singleton_self _)
      (fun p hp => by rw [Finset.mem_singleton.mp hp]; dsimp only [lv]; rw [if_neg (fun h => by cases h), if_neg hq])
      (fun g u hg => by
        rcases O₀_pos hg with (rfl | rfl) | rfl | rfl
        · rw [lv_rcvR]; decide
        · rw [lv_rcvL]; decide
        · rw [lv_bar]; decide
        · rw [lv_bar]; decide)
  · rw [MayWait_zero]; iintro -; iempintro

omit [FloatOps F] in
/-- At its barrier wait a device owes rows only, which rank above. -/
theorem mayWait_bar (c : Dev nD) : (levAts L lv : sProp 𝕄) ⊢ MayWait (c : Thread nD τ) (.reg barS) () (O₂ c) :=
  MayOwe.of_cut (L := L) (lev := lv) 1 (fun p hp => by rw [Finset.mem_singleton.mp hp, L_tc]; exact Finset.mem_singleton_self _)
    (fun g u hg => by rcases O₂_pos hg with rfl | rfl <;> exact Finset.mem_singleton_self _)
    (fun p hp => by rw [Finset.mem_singleton.mp hp]; exact (lv_bar c ()).le)
    (fun g u hg => by
      rcases O₂_pos hg with rfl | rfl
      · rw [lv_rcvR]; decide
      · rw [lv_rcvL]; decide)

end Cert.KernelIdeal.Halo

end
-- ==== Proof.KernelIdeal.Rows.lean ====
/-
  What the kernel's loads and stores read and leave: a row-sized slot of a two-slot buffer, and the rows of a block.

  A two-slot buffer is its two slots and nothing else, so holding the buffer is holding both slots. A row stored through
  the buffer's rectangle is the row its slot view reads. The three stores into the output leave the inner rows, the first
  row and the last row, whatever the output held before.
-/
module

public import proofs.«01_k».proof.Proof.KernelIdeal.Cells

@[expose] public section

noncomputable section

namespace Cert.KernelIdeal.Halo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## A two-slot buffer and its slots -/

abbrev slotRect (i : ℕ) (inb : ∀ a, (![i, 0, 0] : Fin 3 → ℕ) a + S1x1x512.size a ≤ S2x1x512.size a) : Rect S2x1x512 :=
  Rect.unit (s := S2x1x512) ![i, 0, 0] S1x1x512.size inb
abbrev slotOf (M : Memref sig .tc .vmem S2x1x512 .bf16) (i : ℕ) (inb : ∀ a, (![i, 0, 0] : Fin 3 → ℕ) a + S1x1x512.size a ≤ S2x1x512.size a) :
    Memref sig .tc .vmem S1x512 .bf16 :=
  (M.slice (slotRect i inb) (fun _ => rfl)).squeeze S1x512 squeezes_S1x1x512_S1x512

/-- A row as the one-slab block a slot's loads and stores carry. -/
abbrev asSlab (w : S1x512.Idx → Elt F .bf16) : Vec F S1x1x512 .bf16 := shapeCast S1x1x512 w shapeCasts_S1x512_S1x1x512

section Slot
variable (M : Memref sig .tc .vmem S2x1x512 .bf16) (i : ℕ) (inb : ∀ a, (![i, 0, 0] : Fin 3 → ℕ) a + S1x1x512.size a ≤ S2x1x512.size a)

omit [FloatOps F] in
theorem slot_set : (slotOf M i inb).view.set = M.view.setOn (slotRect i inb).set := by
  exact (View.set_reshape (v := (M.slice (slotRect i inb) (fun _ => rfl)).view) _).trans (View.set_slice _ _)
omit [FloatOps F] in
/-- A load of a slot's slab is the row the slot reads. -/
theorem slot_read (f : M.view.ty.Contents (Elt F)) :
    M.view.readAt (Elt F) (slotRect i inb).toLoadRect f = asSlab ((slotOf M i inb).view.read (Elt F) f) := by
  funext y
  show M.view.read (Elt F) f ((slotRect i inb).emb y) = M.view.read (Elt F) f ((slotRect i inb).emb (Shape.reshapeEquiv _ (Shape.reshapeEquiv _ y)))
  rw [Shape.reshapeEquiv_reshapeEquiv, Shape.reshapeEquiv_self]
omit [FloatOps F] in
/-- After a row is stored at a slot's slab, the slot reads that row. -/
theorem slot_write (f : M.view.ty.Contents (Elt F)) (w : S1x512.Idx → Elt F .bf16) :
    (slotOf M i inb).view.read (Elt F) ((M.access (slotRect i inb)).write (Elt F) f (asSlab w) Finset.univ) = w := by
  funext y
  have h : ∀ z, M.view.read (Elt F) ((M.access (slotRect i inb)).write (Elt F) f (asSlab w) Finset.univ) ((slotRect i inb).emb z) = asSlab w z :=
    fun z => View.read_slice_write_emb (v := M.view) (slotRect i inb) f (asSlab w) (Finset.mem_univ z)
  refine (h (Shape.reshapeEquiv squeezes_S1x1x512_S1x512.numel_eq y)).trans ?_
  show w (Shape.reshapeEquiv _ (Shape.reshapeEquiv _ y)) = w y
  rw [Shape.reshapeEquiv_reshapeEquiv, Shape.reshapeEquiv_self]
end Slot

theorem rect1_set : (rect1 : Rect S2x1x512).set = Finset.univ \ (rect0 : Rect S2x1x512).set := by
  ext y
  rw [Finset.mem_sdiff]
  have h0 : (y 0).val < 2 := (y 0).isLt
  have h1 : (y 1).val < 1 := (y 1).isLt
  have h2 : (y 2).val < 512 := (y 2).isLt
  rw [Rect.mem_set_unit, Rect.mem_set_unit]
  constructor
  · intro h
    refine ⟨Finset.mem_univ _, fun h' => ?_⟩
    have a : 1 ≤ (y 0).val := (h 0).1
    have b : (y 0).val < 0 + 1 := (h' 0).2
    omega
  · rintro ⟨-, h⟩ a
    have hy : 1 ≤ (y 0).val := by
      by_contra hn
      refine h fun a => ?_
      fin_cases a
      · exact ⟨Nat.zero_le _, show (y 0).val < 0 + 1 by omega⟩
      · exact ⟨Nat.zero_le _, show (y 1).val < 0 + 1 by omega⟩
      · exact ⟨Nat.zero_le _, show (y 2).val < 0 + 512 by omega⟩
    fin_cases a
    · exact ⟨hy, show (y 0).val < 1 + 1 by omega⟩
    · exact ⟨Nat.zero_le _, show (y 1).val < 0 + 1 by omega⟩
    · exact ⟨Nat.zero_le _, show (y 2).val < 0 + 512 by omega⟩

section Split
variable (b : Ref sig .tc) (c : Dev nD)

omit [FloatOps F] in
/-- The halo at any contents is its two slots at any contents. -/
theorem halo_split : iprop(∃ f : Buf (Elt F) ((c : Thread nD τ).loc cc0_scratch0), ((c : Thread nD τ).loc cc0_scratch0) ↦{fullShare} f)
    ⊣⊢ (iprop(anySlot slotL c ∗ anySlot slotR c) : sProp 𝕄) := by
  have hL : slotL.view.set = (rect0 : Rect S2x1x512).set := (slot_set hM 0 _).trans (by exact Finset.map_refl)
  have hR : slotR.view.set = Finset.univ \ (rect0 : Rect S2x1x512).set := (slot_set hM 1 _).trans ((by exact Finset.map_refl : _ = (rect1 : Rect S2x1x512).set).trans rect1_set)
  unfold anySlot slotPts
  rw [hL, hR]
  constructor
  · iintro ⟨%f, H⟩
    ihave H' := (pointsTo_split_subset (Finset.subset_univ (rect0 : Rect S2x1x512).set)).1 $$ H
    icases H' with ⟨H1, H2⟩
    isplitl [H1]
    · iexists f; iexact H1
    · iexists f; iexact H2
  · iintro ⟨⟨%g, H1⟩, ⟨%f, H2⟩⟩
    iexists _
    iapply (pointsTo_join_subset (Finset.subset_univ (rect0 : Rect S2x1x512).set))
    isplitl [H1] <;> iassumption

omit [FloatOps F] in
/-- Likewise the buffer of staged rows. -/
theorem rows_split : iprop(∃ f : Buf (Elt F) ((c : Thread nD τ).loc cc0_scratch1), ((c : Thread nD τ).loc cc0_scratch1) ↦{fullShare} f)
    ⊣⊢ (iprop(anySlot outR c ∗ anySlot outL c) : sProp 𝕄) := by
  have hL : outR.view.set = (rect0 : Rect S2x1x512).set := (slot_set rM 0 _).trans (by exact Finset.map_refl)
  have hR : outL.view.set = Finset.univ \ (rect0 : Rect S2x1x512).set := (slot_set rM 1 _).trans ((by exact Finset.map_refl : _ = (rect1 : Rect S2x1x512).set).trans rect1_set)
  unfold anySlot slotPts
  rw [hL, hR]
  constructor
  · iintro ⟨%f, H⟩
    ihave H' := (pointsTo_split_subset (Finset.subset_univ (rect0 : Rect S2x1x512).set)).1 $$ H
    icases H' with ⟨H1, H2⟩
    isplitl [H1]
    · iexists f; iexact H1
    · iexists f; iexact H2
  · iintro ⟨⟨%g, H1⟩, ⟨%f, H2⟩⟩
    iexists _
    iapply (pointsTo_join_subset (Finset.subset_univ (rect0 : Rect S2x1x512).set))
    isplitl [H1] <;> iassumption
end Split

/-! ## The output block -/

omit [FloatOps F] in
/-- A load of the block of `x` reads a window of its contents. -/
theorem x_read (f : (cc0_stg0_0 : Ref sig .tc).ty.Contents (Elt F)) {off size : Fin 2 → ℕ} (inb : ∀ a, off a + size a ≤ S1024x512.size a) :
    (xM : Memref sig .tc .vmem S1024x512 .bf16).view.readAt (Elt F) (Rect.unit (s := S1024x512) off size inb).toLoadRect f
      = VecWindow.window (s := S1024x512) f off size inb := rfl

omit [FloatOps F] in
/-- A store of a rectangle whose payload is the old rectangle with some rows replaced leaves the block with those rows
    replaced: rows `a + b` on, where the rectangle starts at row `a` and the replaced rows at its row `b`. -/
theorem store_rows (f : (cc0_stg1_0 : Ref sig .tc).ty.Contents (Elt F)) (a b k h : ℕ)
    (inb : ∀ i, (![a, 0] : Fin 2 → ℕ) i + (![k, 512] : Fin 2 → ℕ) i ≤ S1024x512.size i)
    (w : (⟨2, ![h, 512]⟩ : Shape).Idx → Elt F .bf16) (hs : (⟨2, ![k, 512]⟩ : Shape).Slices ![b, 0] ⟨2, ![h, 512]⟩) :
    ((oM : Memref sig .tc .vmem S1024x512 .bf16).access (Rect.unit (s := S1024x512) ![a, 0] ![k, 512] inb)).write (Elt F) f
        (updateSlice ((oM : Memref sig .tc .vmem S1024x512 .bf16).view.readAt (Elt F) (Rect.unit (s := S1024x512) ![a, 0] ![k, 512] inb).toLoadRect f) w ![b, 0] hs) Finset.univ
      = VecWindow.put (s := S1024x512) f ![a + b, 0] ![h, 512] w := by
  have hbk : b + h ≤ k := hs.2 0
  refine (View.read_writes_cons_put (v := (oM : Memref sig .tc .vmem S1024x512 .bf16).view) f inb
    (updateSlice ((oM : Memref sig .tc .vmem S1024x512 .bf16).view.readAt (Elt F) (Rect.unit (s := S1024x512) ![a, 0] ![k, 512] inb).toLoadRect f) w ![b, 0] hs) [] rfl).trans ?_
  rw [View.writes_nil]
  funext y
  have h1 : (y 1).val < 512 := (y 1).isLt
  show VecWindow.put (s := S1024x512) f _ _ _ y = _
  unfold VecWindow.put updateSlice
  by_cases hy : a + b ≤ (y 0).val ∧ (y 0).val < a + b + h
  · have hin : ∀ i, (![a, 0] : Fin 2 → ℕ) i ≤ (y i).val ∧ (y i).val < (![a, 0] : Fin 2 → ℕ) i + (![k, 512] : Fin 2 → ℕ) i := by
      intro i; fin_cases i
      · exact ⟨show a ≤ (y 0).val by omega, show (y 0).val < a + k by omega⟩
      · exact ⟨Nat.zero_le _, show (y 1).val < 0 + 512 by omega⟩
    have hin' : ∀ i, (![a + b, 0] : Fin 2 → ℕ) i ≤ (y i).val ∧ (y i).val < (![a + b, 0] : Fin 2 → ℕ) i + (![h, 512] : Fin 2 → ℕ) i := by
      intro i; fin_cases i
      · exact ⟨show a + b ≤ (y 0).val by omega, show (y 0).val < a + b + h by omega⟩
      · exact ⟨Nat.zero_le _, show (y 1).val < 0 + 512 by omega⟩
    rw [dif_pos hin, dif_pos hin', dif_pos]
    · refine congrArg w (funext fun i => Fin.ext ?_)
      fin_cases i
      · show (y 0).val - a - b = (y 0).val - (a + b); omega
      · rfl
    · intro i; fin_cases i
      · exact ⟨show b ≤ (y 0).val - a by omega, show (y 0).val - a < b + h by omega⟩
      · exact ⟨Nat.zero_le _, show (y 1).val - 0 < 0 + 512 by omega⟩
  · rw [dif_neg (c := ∀ i, (![a + b, 0] : Fin 2 → ℕ) i ≤ (y i).val ∧ (y i).val < (![a + b, 0] : Fin 2 → ℕ) i + (![h, 512] : Fin 2 → ℕ) i) (fun hh => hy (hh 0))]
    by_cases hin : ∀ i, (![a, 0] : Fin 2 → ℕ) i ≤ (y i).val ∧ (y i).val < (![a, 0] : Fin 2 → ℕ) i + (![k, 512] : Fin 2 → ℕ) i
    · have ha : a ≤ (y 0).val := (hin 0).1
      rw [dif_pos hin, dif_neg (fun hh => hy (by
        have p : b ≤ (y 0).val - a := (hh 0).1
        have q : (y 0).val - a < b + h := (hh 0).2
        omega))]
      refine congrArg f (funext fun i => Fin.ext ?_)
      fin_cases i
      · show a + 1 * ((y 0).val - a) = (y 0).val; omega
      · show 0 + 1 * ((y 1).val - 0) = (y 1).val; omega
    · rw [dif_neg hin]

/-- The block with its inner rows, its first row and its last row replaced. -/
def blockOf (f : S1024x512.Idx → Elt F .bf16) (inner : S1022x512.Idx → Elt F .bf16) (top bot : S1x512.Idx → Elt F .bf16) : S1024x512.Idx → Elt F .bf16 :=
  VecWindow.put (s := S1024x512) (VecWindow.put (s := S1024x512) (VecWindow.put (s := S1024x512) f ![0 + 1, 0] ![1022, 512] inner) ![0 + 0, 0] ![1, 512] top) ![1022 + 1, 0] ![1, 512] bot

/-- The position of column `j` in row `i` of an array of `h` rows. -/
def at2 {h : ℕ} (i : Fin h) (j : Fin 512) : (⟨2, ![h, 512]⟩ : Shape).Idx := fun a => match a with | 0 => i | 1 => j

omit [FloatOps F] in
theorem put_in {h a : ℕ} (f : S1024x512.Idx → Elt F .bf16) (w : (⟨2, ![h, 512]⟩ : Shape).Idx → Elt F .bf16) (y : S1024x512.Idx)
    (h0 : a ≤ (y 0).val) (h1 : (y 0).val < a + h) :
    VecWindow.put (s := S1024x512) f ![a, 0] ![h, 512] w y = w (at2 ⟨(y 0).val - a, by omega⟩ (y 1)) := by
  have h2 : (y 1).val < 512 := (y 1).isLt
  unfold VecWindow.put
  rw [dif_pos (by
    intro i; fin_cases i
    · exact ⟨h0, h1⟩
    · exact ⟨Nat.zero_le _, show (y 1).val < 0 + 512 by omega⟩)]
  refine congrArg w (funext fun i => Fin.ext ?_)
  fin_cases i
  · rfl
  · show (y 1).val - 0 = (y 1).val; omega
omit [FloatOps F] in
theorem put_out {h a : ℕ} (f : S1024x512.Idx → Elt F .bf16) (w : (⟨2, ![h, 512]⟩ : Shape).Idx → Elt F .bf16) (y : S1024x512.Idx)
    (hy : ¬ (a ≤ (y 0).val ∧ (y 0).val < a + h)) :
    VecWindow.put (s := S1024x512) f ![a, 0] ![h, 512] w y = f y := by
  unfold VecWindow.put
  exact dif_neg fun hh => hy (hh 0)

section Block
variable (f : S1024x512.Idx → Elt F .bf16) (inner : S1022x512.Idx → Elt F .bf16) (top bot : S1x512.Idx → Elt F .bf16) (y : S1024x512.Idx)

omit [FloatOps F] in
theorem blockOf_first (h : (y 0).val = 0) : blockOf f inner top bot y = top (at2 0 (y 1)) := by
  unfold blockOf
  rw [put_out _ _ _ (by omega), put_in _ _ _ (by omega) (by omega)]
  exact congrArg (fun i => top (at2 i (y 1))) (Subsingleton.elim _ _)
omit [FloatOps F] in
theorem blockOf_last (h : (y 0).val = 1023) : blockOf f inner top bot y = bot (at2 0 (y 1)) := by
  unfold blockOf
  rw [put_in _ _ _ (by omega) (by omega)]
  exact congrArg (fun i => bot (at2 i (y 1))) (Subsingleton.elim _ _)
omit [FloatOps F] in
theorem blockOf_inner (h : 0 < (y 0).val) (h' : (y 0).val < 1023) : blockOf f inner top bot y = inner (at2 ⟨(y 0).val - 1, by omega⟩ (y 1)) := by
  unfold blockOf
  rw [put_out _ _ _ (by omega), put_out _ _ _ (by omega), put_in _ _ _ (by omega) (by omega)]
omit [FloatOps F] in
/-- What was there before does not matter. -/
theorem blockOf_base (g : S1024x512.Idx → Elt F .bf16) : blockOf f inner top bot = blockOf g inner top bot := by
  funext y
  have hy : (y 0).val < 1024 := (y 0).isLt
  rcases Nat.eq_zero_or_pos (y 0).val with h | h
  · rw [blockOf_first f _ _ _ y h, blockOf_first g _ _ _ y h]
  · by_cases h' : (y 0).val = 1023
    · rw [blockOf_last f _ _ _ y h', blockOf_last g _ _ _ y h']
    · rw [blockOf_inner f _ _ _ y h (by omega), blockOf_inner g _ _ _ y h (by omega)]
end Block

end Cert.KernelIdeal.Halo

end
-- ==== Proof.KernelIdeal.Steps.lean ====
/-
  The steps of one device's body: an entry signal, the wait for both neighbours, a row's transfer, the wait for a row.

  A step takes what the device holds before it and hands on what it holds after it; where the device's place on the line
  makes a step absent, what it would have brought is absent too.
-/
module

public import proofs.«01_k».proof.Proof.KernelIdeal.Rows

@[expose] public section

noncomputable section

namespace Cert.KernelIdeal.Halo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The invariants of every cell, under the names `K`, and that every cell has reached round 0. -/
def records (K : Dev nD × Fin 5 → ℕ) : sProp 𝕄 :=
  iprop((bigSep Finset.univ fun ck : Dev nD × Fin 5 => cellInv ER (rd m) (K ck) (kcell ck))
    ∗ bigSep Finset.univ fun ck : Dev nD × Fin 5 => reached ER (kcell ck) 0)

instance records_persistent (K : Dev nD × Fin 5 → ℕ) : BI.Persistent (records m K) := by unfold records; infer_instance

section Steps
variable (K : Dev nD × Fin 5 → ℕ)

omit [FloatOps F] in
theorem inv_of (ck : Dev nD × Fin 5) : records m K ⊢ cellInv ER (rd m) (K ck) (kcell ck) := by
  unfold records
  iintro ⟨HI, -⟩
  have h : (bigSep Finset.univ fun ck : Dev nD × Fin 5 => (cellInv ER (rd m) (K ck) (kcell ck) : sProp 𝕄)) ⊢ cellInv ER (rd m) (K ck) (kcell ck) :=
    bigSep_elim (Finset.mem_univ ck)
  iapply h
  iexact HI
omit [FloatOps F] in
theorem reached_of (ck : Dev nD × Fin 5) : records m K ⊢ reached ER (kcell ck) 0 := by
  unfold records
  iintro ⟨-, HR⟩
  have h : (bigSep Finset.univ fun ck : Dev nD × Fin 5 => (reached ER (kcell ck) 0 : sProp 𝕄)) ⊢ reached ER (kcell ck) 0 :=
    bigSep_elim (Finset.mem_univ ck)
  iapply h
  iexact HR

omit [FloatOps F] in
theorem dma_inv (c : Dev nD) (j : Fin 5) (q : DmaSem sig) (hq : csem j = .dma q) :
    records m K ⊢ cellInv ER (rd m) (K (c, j)) ((c : Thread nD τ), SemLoc.dma q) := by
  rw [← hq]; exact inv_of m K (c, j)
omit [FloatOps F] in
theorem dma_reached (c : Dev nD) (j : Fin 5) (q : DmaSem sig) (hq : csem j = .dma q) :
    records m K ⊢ reached ER ((c : Thread nD τ), SemLoc.dma q) 0 := by
  rw [← hq]; exact reached_of m K (c, j)

/-- A signal of one unit to device `n`'s barrier, under the duty `d`, with the duty's payload. -/
theorem wp_enter {α : Type} {Q : α → sProp 𝕄} {k : PUnit → Prog (TpuEff nD τ sig (Elt F) Λ₀ .tc) α}
    (c n : Dev nD) (d : Bool) (O : CellTallies nD τ sig Unit) (W : Waits sig Unit) :
    iprop(records m K ∗ owes (c : Thread nD τ) (O + tallyAt (barCell n) () 1) W ∗ dutyTok ER (barCell n) 0 d ∗ pay m n (.reg barS) d)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS (1#32 : BitVec 32).toNat) k) Q) := by
  iintro ⟨#HR, HO, Ht, Hp⟩
  iapply (Rounds.wp_signal 𝒱₀ ER (rd m) (c : Thread nD τ) none (dst := (Dev.tc n : Thread nD τ)) (κ := K (n, 0))
      (d := d) (r := 0) (by rw [duties_bar]; exact Finset.mem_univ _) ((amount_bar m n d).trans (by decide)) () O rfl) $$ [HO Ht Hp]
  isplitr; · iapply (inv_of m K (n, 0)); iexact HR
  isplitl [HO]; · iexact HO
  isplitl [Ht]; · iexact Ht
  isplitl [Hp]; · rw [show (rd m).payload ((Dev.tc n : Thread nD τ), SemLoc.reg barS) 0 d = pay m n (.reg barS) d from rfl]; iexact Hp
  iapply (reached_of m K (n, 0)); iexact HR

/-- The wait for both entry signals, while only rows are owed: both neighbours' slots arrive, and the barrier cell closes. -/
theorem wp_entered {α : Type} {Q : α → sProp 𝕄} {k : PUnit → Prog (TpuEff nD τ sig (Elt F) Λ₀ .tc) α}
    (c : Dev nD) (W : Waits sig Unit) :
    iprop(records m K ∗ cred (tallyAt (barCell c) () 2) ∗ owes (c : Thread nD τ) (O₂ c) W ∗ levAts L lv ∗ atPos ER (barCell c) 0 ∅ 0)
      ⊢ iprop(((owes (c : Thread nD τ) (O₂ c) (insert (SemLoc.reg barS, ()) W) ∗ semVal (barCell c) 0 ∗ payFromL c ∗ payFromR c)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (2#32 : BitVec 32).toNat) k) Q) := by
  iintro ⟨#HR, Hc, HO, Hlev, Hat⟩ Hk
  iapply (Rounds.wp_wait_rest_token 𝒱₀ ER (rd m) (c : Thread nD τ) none (κ := K (c, 0))
      (wpE_semWait_eq 𝒱₀ (c : Thread nD τ) none Set.univ) (Set.mem_univ _) () (O := O₂ c) (W := W) (R := 0) (m := 0) (T := ∅)
      (by rw [expect_bar]; decide)) $$ [Hc HO Hlev Hat]
  · isplitr; · iapply (inv_of m K (c, 0)); iexact HR
    isplitl [Hc]; · iexact Hc
    isplitl [HO]; · iexact HO
    isplitl [Hlev]; · iapply (mayWait_bar c); iexact Hlev
    iexact Hat
  iintro ⟨HO, Hat, -, Hpay⟩
  ihave Hp := (Entails.of_eq (rest_bar m c)) $$ Hpay
  icases Hp with ⟨HL, HRt⟩
  imod (Rounds.cell_close ER (rd m) (Set.mem_univ (K (c, 0))) (fun h => h) (R := 0 + 1) (duties_later m (barCell c))) $$ [Hat] with Hz
  · isplitr; · iapply (inv_of m K (c, 0)); iexact HR
    iexact Hat
  iapply Hk
  isplitl [HO]; · iexact HO
  isplitl [Hz]; · iexact Hz
  isplitl [HL] <;> iassumption

omit [FloatOps F] in
/-- A transfer cell of a device without that transfer closes where it stands. -/
theorem close_idle (c : Dev nD) (j : Fin 5) (q : DmaSem sig) (hq : csem j = .dma q) (h : ¬ Active c (.dma q)) :
    iprop(records m K ∗ atPos ER ((c : Thread nD τ), SemLoc.dma q) 0 ∅ 0) ⊢ |={Set.univ}=> semVal ((c : Thread nD τ), SemLoc.dma q) 0 := by
  have hi := dma_inv m K c j q hq
  iintro ⟨#HR, Hat⟩
  iapply (Rounds.cell_close ER (rd m) (Set.mem_univ (K (c, j))) (fun h => h) (R := 0) (duties_never m c q h))
  isplitr; · iapply hi; iexact HR
  iexact Hat

/-- The wait for a row, on either end of its transfer, by a device that owes nothing: what the landing carries arrives, and
    the cell closes. -/
theorem wp_row_wait {α : Type} {Q : α → sProp 𝕄} {k : PUnit → Prog (TpuEff nD τ sig (Elt F) Λ₀ .tc) α}
    (c : Dev nD) (j : Fin 5) (q : DmaSem sig) (hq : csem j = .dma q) (h : Active c (.dma q)) {sp sp' : Space} {s s' : Shape} {e e' : EltTy}
    {src : Memref sig .tc sp s e} {dst : Memref sig .tc sp' s' e'} {hsrc : src.view.WordExact} {hdst : dst.view.WordExact}
    (hN : dst.view.dmaCredit = N) (W : Waits sig Unit) :
    iprop(records m K ∗ cred (tallyAt ((c : Thread nD τ), SemLoc.dma q) () N) ∗ owes (c : Thread nD τ) 0 W ∗ atPos ER ((c : Thread nD τ), SemLoc.dma q) 0 ∅ 0)
      ⊢ iprop(((owes (c : Thread nD τ) 0 (insert (SemLoc.dma q, ()) W) ∗ semVal ((c : Thread nD τ), SemLoc.dma q) 0 ∗ pay m c (.dma q) false)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  have hi := dma_inv m K c j q hq
  rw [← hN]
  iintro ⟨#HR, Hc, HO, Hat⟩ Hk
  iapply (Rounds.wp_wait_rest_token 𝒱₀ ER (rd m) (c : Thread nD τ) none (κ := K (c, j))
      (wpE_waitDma2_eq 𝒱₀ (c : Thread nD τ) none Set.univ) (Set.mem_univ _) () (O := 0) (W := W) (R := 0) (m := 0) (T := ∅)
      (by rw [Nat.zero_add, expect_dma m c q h, hN])) $$ [Hc HO Hat]
  · isplitr; · iapply hi; iexact HR
    isplitl [Hc]; · iexact Hc
    isplitl [HO]; · iexact HO
    isplitr; · rw [MayWait_zero]; iempintro
    iexact Hat
  iintro ⟨HO, Hat, -, Hpay⟩
  ihave Hp := (Entails.of_eq (rest_dma m c q h)) $$ Hpay
  imod (Rounds.cell_close ER (rd m) (Set.mem_univ (K (c, j))) (fun h => h) (R := 0 + 1) (duties_later m _)) $$ [Hat] with Hz
  · isplitr; · iapply hi; iexact HR
    iexact Hat
  iapply Hk
  isplitl [HO]; · iexact HO
  isplitl [Hz] <;> iassumption

/-- The transfer of a row from the slot `src` to device `n`'s slot `dst`: the source is lent to the transfer, the row is
    what it holds, and the debt of one row is paid. -/
theorem wp_row_send {α : Type} {Q : α → sProp 𝕄} {k : PUnit → Prog (TpuEff nD τ sig (Elt F) Λ₀ .tc) α}
    (c n : Dev nD) (j₁ j₂ : Fin 5) (q₁ q₂ : DmaSem sig) (hq₁ : csem j₁ = .dma q₁) (hq₂ : csem j₂ = .dma q₂)
    (h₁ : Active c (.dma q₁)) (h₂ : Active n (.dma q₂)) {src dst : Memref sig .tc .vmem S1x512 .bf16} (hN : dst.view.amount (.dma q₂) = N)
    (w : S1x512.Idx → Elt F .bf16) (fs : Buf (Elt F) (src.view.loc (c : Thread nD τ))) (hw : src.view.read (Elt F) fs = w)
    (p₁ : pay m c (.dma q₁) false = (anySlot src c : sProp 𝕄)) (p₂ : pay m n (.dma q₂) false = holds dst n w)
    {hsc : dst.view.ref.isScScratch = false} {hsrc : src.view.WordExact} {hdst : dst.view.WordExact}
    {hsem : DmaTarget.Typed .vmem (.dma q₂) (.remote (Dev.tc n : Thread nD τ) dst (.dma q₁) hsc)}
    (O : CellTallies nD τ sig Unit) (W : Waits sig Unit) :
    iprop(records m K ∗ slotPts src c fs ∗ anySlot dst n ∗ owes (c : Thread nD τ) (O + tallyAt ((n : Thread nD τ), SemLoc.dma q₂) () N) W
        ∗ dutyTok ER ((c : Thread nD τ), SemLoc.dma q₁) 0 false ∗ dutyTok ER ((n : Thread nD τ), SemLoc.dma q₂) 0 false)
      ⊢ iprop(((cred (tallyAt ((c : Thread nD τ), SemLoc.dma q₁) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma src (.remote (Dev.tc n : Thread nD τ) dst (.dma q₁) hsc) (.dma q₂) hsrc hdst hsem) k) Q) := by
  have hi₁ := dma_inv m K c j₁ q₁ hq₁
  have hr₁ := dma_reached m K c j₁ q₁ hq₁
  have hi₂ := dma_inv m K n j₂ q₂ hq₂
  have hr₂ := dma_reached m K n j₂ q₂ hq₂
  have e₁ : ((src.view.loc (c : Thread nD τ) ↦[src.view.set]{fullShare} fs) : sProp 𝕄)
      ⊢ (rd m).payload ((c : Thread nD τ), SemLoc.dma q₁) 0 false := by
    rw [show (rd m).payload ((c : Thread nD τ), SemLoc.dma q₁) 0 false = pay m c (.dma q₁) false from rfl, p₁]; unfold anySlot slotPts
    iintro H; iexists fs; iexact H
  have e₂ (fd : Buf (Elt F) (dst.view.loc (n : Thread nD τ))) :
      ((dst.view.loc (n : Thread nD τ) ↦[dst.view.set]{fullShare} (dst.view.write (Elt F) fd (src.view.read (Elt F) fs) Finset.univ)) : sProp 𝕄)
      ⊢ (rd m).payload ((n : Thread nD τ), SemLoc.dma q₂) 0 false := by
    rw [show (rd m).payload ((n : Thread nD τ), SemLoc.dma q₂) 0 false = pay m n (.dma q₂) false from rfl, p₂]; unfold holds slotPts
    iintro H; iexists (dst.view.write (Elt F) fd (src.view.read (Elt F) fs) Finset.univ)
    isplitr
    · ipureintro; exact (View.read_write_univ _ _).trans hw
    · iexact H
  unfold anySlot
  iintro ⟨#HR, Hs, ⟨%fd, Hd⟩, HO, Ht₁, Ht₂⟩
  iapply (Rounds.wp_send_pointsTo 𝒱₀ ER (rd m) (c : Thread nD τ) none (κ₁ := K (c, j₁)) (κ₂ := K (n, j₂)) (q := fullShare) (fs := fs)
    (r₁ := 0) (r₂ := 0) (d₁ := false) (d₂ := false) (fd := fd)
    (by rw [duties_on m c q₁ h₁]; exact Finset.mem_singleton_self _) (by rw [duties_on m n q₂ h₂]; exact Finset.mem_singleton_self _)
    () () N hN (amount_dma m c q₁ false) (amount_dma m n q₂ false) O rfl (W := W)
    e₁ (e₂ fd)) $$ [Hs Hd HO Ht₁ Ht₂]
  isplitr; · iapply hi₁; iexact HR
  isplitr; · iapply hi₂; iexact HR
  isplitl [Hs]; · unfold slotPts; iexact Hs
  isplitl [Hd]; · unfold slotPts; iexact Hd
  isplitl [HO]; · iexact HO
  isplitl [Ht₁]; · iexact Ht₁
  isplitr; · iapply hr₁; iexact HR
  isplitl [Ht₂]; · iexact Ht₂
  iapply hr₂; iexact HR

end Steps

end Cert.KernelIdeal.Halo

end
-- ==== Proof.KernelIdeal.Moves.lean ====
/-
  The guarded parts of one device's body: each transfer to a neighbour, each boundary row, each wait for a transfer's end.
-/
module

public import proofs.«01_k».proof.Proof.Gen.KernelIdeal.Skeleton
public import Idealize.ShloMosaic.Lib.Pointwise.Reshape
public import proofs.«01_k».proof.Proof.KernelIdeal.Steps

@[expose] public section

noncomputable section

namespace Cert.KernelIdeal.Halo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- Device `c`'s block of `x`, held whole at its launch contents. -/
def xPts (c : Dev nD) : sProp 𝕄 := ((c : Thread nD τ).loc cc0_stg0_0) ↦{fullShare} (xstg m c)
/-- The device's result block at contents `f`. -/
def oPts (c : Dev nD) (f : Buf (Elt F) ((c : Thread nD τ).loc cc0_stg1_0)) : sProp 𝕄 := ((c : Thread nD τ).loc cc0_stg1_0) ↦{fullShare} f

/-- What a device has of its staged slot once the transfer is on its way: the credit for its end, or, without a neighbour on
    that side, the slot itself. -/
def sentR (c : Dev nD) : sProp 𝕄 := if HasR c then cred (tallyAt (sndRCell c) () N) else anySlot outR c
def sentL (c : Dev nD) : sProp 𝕄 := if HasL c then cred (tallyAt (sndLCell c) () N) else anySlot outL c

/-- What a device has of a halo slot while its neighbour may be writing it: nothing, or, without a neighbour on that side,
    the slot itself. -/
def keepL (c : Dev nD) : sProp 𝕄 := if HasL c then iprop(emp) else anySlot slotL c
def keepR (c : Dev nD) : sProp 𝕄 := if HasR c then iprop(emp) else anySlot slotR c

/-- The block's first row as the device computes it, and its last. -/
def topRow (c : Dev nD) : Vec F S1x512 .bf16 :=
  if HasL c then k0_pay2 (asSlab (fromL m c)) (rowOf (xstg m c) 1 inb_S1024x512_S1x512_1_0) (rowOf (xstg m c) 0 inb_S1024x512_S1x512_0_0)
  else k0_pay3 (rowOf (xstg m c) 0 inb_S1024x512_S1x512_0_0)
def botRow (c : Dev nD) : Vec F S1x512 .bf16 :=
  if HasR c then k0_pay4 (rowOf (xstg m c) 1022 inb_S1024x512_S1x512_1022_0) (asSlab (fromR m c)) (rowOf (xstg m c) 1023 inb_S1024x512_S1x512_1023_0)
  else k0_pay5 (rowOf (xstg m c) 1023 inb_S1024x512_S1x512_1023_0)

omit [FloatOps F] in
/-- A store of rows into the result block, at the contents it leaves. -/
theorem stored (c : Dev nD) (f : (cc0_stg1_0 : Ref sig .tc).ty.Contents (Elt F)) (a b k h : ℕ)
    (inb : ∀ i, (![a, 0] : Fin 2 → ℕ) i + (![k, 512] : Fin 2 → ℕ) i ≤ S1024x512.size i)
    (w : (⟨2, ![h, 512]⟩ : Shape).Idx → Elt F .bf16) (hs : (⟨2, ![k, 512]⟩ : Shape).Slices ![b, 0] ⟨2, ![h, 512]⟩) :
    ((((c : Thread nD τ).loc cc0_stg1_0) ↦{fullShare} (((oM : Memref sig .tc .vmem S1024x512 .bf16).access (Rect.unit (s := S1024x512) ![a, 0] ![k, 512] inb)).write (Elt F) f
        (updateSlice ((oM : Memref sig .tc .vmem S1024x512 .bf16).view.readAt (Elt F) (Rect.unit (s := S1024x512) ![a, 0] ![k, 512] inb).toLoadRect f) w ![b, 0] hs) Finset.univ)) : sProp 𝕄)
      ⊢ oPts c (VecWindow.put (s := S1024x512) f ![a + b, 0] ![h, 512] w) := by
  unfold oPts; rw [store_rows]

omit [FloatOps F] in
/-- The same for a boundary row, stored as one of a pair of rows. -/
theorem stored_row (c : Dev nD) (f : (cc0_stg1_0 : Ref sig .tc).ty.Contents (Elt F)) (a b : ℕ)
    (inb : ∀ i, (![a, 0] : Fin 2 → ℕ) i + S2x512.size i ≤ S1024x512.size i) (w : Vec F S1x512 .bf16) (hs : S2x512.Slices ![b, 0] S1x512) :
    (((oM.access (Rect.unit (s := S1024x512) ![a, 0] S2x512.size inb)).loc (c : Thread nD τ) ↦{fullShare} ((oM.access (Rect.unit (s := S1024x512) ![a, 0] S2x512.size inb)).write (Elt F) f
        (updateSlice (oM.view.readAt (Elt F) (Rect.unit (s := S1024x512) ![a, 0] S2x512.size inb).toLoadRect f) w ![b, 0] hs) Finset.univ)) : sProp 𝕄)
      ⊢ oPts c (VecWindow.put (s := S1024x512) f ![a + b, 0] ![1, 512] w) := stored c f a b 2 1 inb w hs

/-- What is staged is the row itself. -/
theorem pay6_slab (v : Vec F S1x512 .bf16) : k0_pay6 v = asSlab v := by unfold k0_pay6; dsimp only; rw [shapeCast_id]
theorem pay7_slab (v : Vec F S1x512 .bf16) : k0_pay7 v = asSlab v := by unfold k0_pay7; dsimp only; rw [shapeCast_id]

section Moves
variable (K : Dev nD × Fin 5 → ℕ)

/-- Staging a row of the block in a slot and sending that slot. -/
theorem wp_stage_row {α : Type} {Q : α → sProp 𝕄} {k : PUnit → Prog (TpuEff nD τ sig (Elt F) Λ₀ .tc) α}
    (c n n' : Dev nD) (hn : n' = n) (i r : ℕ)
    (inb : ∀ a, (![i, 0, 0] : Fin 3 → ℕ) a + S1x1x512.size a ≤ S2x1x512.size a)
    (inr : ∀ a, (![r, 0] : Fin 2 → ℕ) a + S1x512.size a ≤ S1024x512.size a)
    (j₁ j₂ : Fin 5) (q₁ q₂ : DmaSem sig) (hq₁ : csem j₁ = .dma q₁) (hq₂ : csem j₂ = .dma q₂)
    (h₁ : Active c (.dma q₁)) (h₂ : Active n (.dma q₂))
    (slab : Vec F S1x512 .bf16 → Vec F S1x1x512 .bf16) (hp : ∀ v, slab v = asSlab v)
    (p₁ : pay m c (.dma q₁) false = (anySlot (slotOf rM i inb) c : sProp 𝕄))
    (p₂ : pay m n (.dma q₂) false = holds (slotOf hM i inb) n (rowOf (xstg m c) r inr))
    (O : CellTallies nD τ sig Unit) (W : Waits sig Unit)
    {l₁} {l₂} {s₁} {s₂} {g₁} {g₂} {g₃} {g₄} :
    iprop(records m K ∗ xPts m c ∗ anySlot (slotOf rM i inb) c ∗ anySlot (slotOf hM i inb) n
        ∗ owes (c : Thread nD τ) (O + tallyAt ((n : Thread nD τ), SemLoc.dma q₂) () N) W
        ∗ dutyTok ER ((c : Thread nD τ), SemLoc.dma q₁) 0 false ∗ dutyTok ER ((n : Thread nD τ), SemLoc.dma q₂) 0 false)
      ⊢ iprop(((xPts m c ∗ cred (tallyAt ((c : Thread nD τ), SemLoc.dma q₁) () N) ∗ owes (c : Thread nD τ) O W) -∗ (wp frame (wpE (defs₀ (F := F)) 𝒱₀ (c : Thread nD τ) none) Set.univ) (k ⟨⟩) Q)
          -∗ (wp frame (wpE (defs₀ (F := F)) 𝒱₀ (c : Thread nD τ) none) Set.univ)
            (.op (.load xM (Rect.unit (s := S1024x512) ![r, 0] S1x512.size inr).toLoadRect l₁) fun v45 =>
              .op (.load rM (slotRect i inb).toLoadRect l₂) fun _ =>
              .op (.store rM (slotRect i inb) (slab v45) Finset.univ s₁ s₂) fun _ =>
              .op (.enqueueDma (slotOf rM i inb) (.remote (Dev.tc n' : Thread nD τ) (slotOf hM i inb) (.dma q₁) g₁) (.dma q₂) g₂ g₃ g₄) k) Q) := by
  subst hn
  unfold xPts
  rw [show (anySlot (slotOf rM i inb) c : sProp 𝕄) = iprop(∃ f, slotPts (slotOf rM i inb) c f) from rfl]
  unfold slotPts
  iintro ⟨#HR, Hx, ⟨%f, Hs⟩, Hd, HO, Ht₁, Ht₂⟩ Hk
  iapply (wp_load 𝒱₀ (c : Thread nD τ) none Set.univ (m := xM) (Finset.subset_univ _)) $$ Hx; iintro Hx
  iapply (wp_load 𝒱₀ (c : Thread nD τ) none Set.univ (m := rM) (by rw [slot_set])) $$ Hs; iintro Hs
  iapply (wp_store 𝒱₀ (c : Thread nD τ) none Set.univ (m := rM) (r := slotRect i inb) (Mk := Finset.univ) (by rw [slot_set]; exact (View.set_slice _ _).le)) $$ Hs; iintro Hs
  rw [hp]
  iapply (wp_row_send m K c n' j₁ j₂ q₁ q₂ hq₁ hq₂ h₁ h₂ (src := slotOf rM i inb) (dst := slotOf hM i inb) rfl (rowOf (xstg m c) r inr) _
    (slot_write rM i inb f _) p₁ p₂ O W) $$ [Hs Hd HO Ht₁ Ht₂]
  · isplitr; · iexact HR
    isplitl [Hs]; · unfold slotPts; iexact Hs
    isplitl [Hd]; · iexact Hd
    isplitl [HO]; · iexact HO
    isplitl [Ht₁] <;> iassumption
  iintro ⟨Hc, HO⟩
  iapply Hk
  isplitl [Hx]; · iexact Hx
  isplitl [Hc] <;> iassumption

/-- The start of the transfer to the right: the last row staged in the first slot, and that slot sent. -/
def sendRight (c : Dev nD) {α : Type} (k : Prog (TpuEff nD τ sig (Elt F) Λ₀ .tc) α) : Prog (TpuEff nD τ sig (Elt F) Λ₀ .tc) α :=
  (if h : k0_cond1 c = 1#1 then
              (.op (.load xM (Rect.unit (s := S1024x512) ![1023, 0] S1x512.size inb_S1024x512_S1x512_1023_0).toLoadRect (View.loadsAt_vmem h_S1x512)) fun v45 =>
                .op (.load rM (Rect.unit (s := S2x1x512) ![0, 0, 0] S1x1x512.size inb_S2x1x512_S1x1x512_0_0_0).toLoadRect (View.loadsAt_vmem h_S1x1x512)) fun _ =>
                .op (.store rM (Rect.unit (s := S2x1x512) ![0, 0, 0] S1x1x512.size inb_S2x1x512_S1x1x512_0_0_0) (k0_pay6 v45) Finset.univ (View.stores_vmem h_S1x1x512 ((Memref.isWhole_whole cc0_scratch1).storeExact_slice rfl _ packedbf16_S2x1x512_S1x1x512_0_0_0) (fun _ => rfl)) (.inl rfl)) fun _ =>
                .op (.enqueueDma outR (.remote (Dev.tc (⟨k0_dev3 c, k0_dev3_lt c h⟩ : Dev nD) : Thread nD τ) slotL (.dma sndR)) (.dma rcvL) (((Memref.isWhole_whole cc0_scratch1).wordExact_slice rfl _ wordsbf16_S2x1x512_S1x1x512_0_0_0).reshape _ _) (((Memref.isWhole_whole cc0_scratch0).wordExact_slice rfl _ wordsbf16_S2x1x512_S1x1x512_0_0_0).reshape _ _) ⟨⟨rfl, Or.inl rfl⟩, trivial⟩) fun _ => k)
            else k)

/-- The transfer to the right, where there is one. -/
theorem wp_send_right (c : Dev nD) (O : CellTallies nD τ sig Unit) (W : Waits sig Unit)
    {α : Type} {Q : α → sProp 𝕄} {k : Prog (TpuEff nD τ sig (Elt F) Λ₀ .tc) α} :
    iprop(records m K ∗ xPts m c ∗ anySlot outR c ∗ payFromR c ∗ owes (c : Thread nD τ) (O + owR c) W
        ∗ dutyTok ER (sndRCell c) 0 false ∗ dutyTok ER (rcvLCell (nxt c)) 0 false)
      ⊢ iprop(((xPts m c ∗ sentR c ∗ owes (c : Thread nD τ) O W) -∗ wp frame (wpE (defs₀ (F := F)) 𝒱₀ (c : Thread nD τ) none) Set.univ k Q)
          -∗ wp frame (wpE (defs₀ (F := F)) 𝒱₀ (c : Thread nD τ) none) Set.univ
            (sendRight c k) Q) := by
  unfold sendRight
  by_cases h : HasR c
  · rw [dif_pos ((cond1_iff c).mpr h)]
    unfold payFromR owR
    rw [if_pos h, if_pos h]
    iintro ⟨#HR, Hx, Hs, Hp, HO, Ht₁, Ht₂⟩ Hk
    iapply (wp_stage_row m K c (nxt c) _ (dev3_eq c ((cond1_iff c).mpr h) h) 0 1023 inb_S2x1x512_S1x1x512_0_0_0 inb_S1024x512_S1x512_1023_0 (1) (3) sndR rcvL rfl rfl
      ((active_sndR c).mpr h) ((active_rcvL (nxt c)).mpr ((hasL_nxt c).mpr h)) k0_pay6 pay6_slab (pay_sndR m c false) (by rw [pay_rcvL]; unfold fromL; rw [prv_nxt]) O W) $$ [Hx Hs Hp HO Ht₁ Ht₂]
    · isplitr; · iexact HR
      isplitl [Hx]; · iexact Hx
      isplitl [Hs]; · iexact Hs
      isplitl [Hp]; · iexact Hp
      isplitl [HO]; · iexact HO
      isplitl [Ht₁] <;> iassumption
    iintro ⟨Hx, Hc, HO⟩
    iapply Hk
    isplitl [Hx]; · iexact Hx
    isplitl [Hc]
    · unfold sentR; rw [if_pos h]; iexact Hc
    iexact HO
  · rw [dif_neg (fun h' => h ((cond1_iff c).mp h'))]
    unfold owR
    rw [if_neg h, tallyAt_zero, add_zero]
    iintro ⟨#HR, Hx, Hs, Hp, HO, Ht₁, Ht₂⟩ Hk
    iapply Hk
    isplitl [Hx]; · iexact Hx
    isplitl [Hs]
    · unfold sentR; rw [if_neg h]; iexact Hs
    iexact HO

/-- The start of the transfer to the left: the first row staged in the second slot, and that slot sent. -/
def sendLeft (c : Dev nD) {α : Type} (k : Prog (TpuEff nD τ sig (Elt F) Λ₀ .tc) α) : Prog (TpuEff nD τ sig (Elt F) Λ₀ .tc) α :=
  (if h : k0_cond2 c = 1#1 then
              (.op (.load xM (Rect.unit (s := S1024x512) ![0, 0] S1x512.size inb_S1024x512_S1x512_0_0).toLoadRect (View.loadsAt_vmem h_S1x512)) fun v45 =>
                .op (.load rM (Rect.unit (s := S2x1x512) ![1, 0, 0] S1x1x512.size inb_S2x1x512_S1x1x512_1_0_0).toLoadRect (View.loadsAt_vmem h_S1x1x512)) fun _ =>
                .op (.store rM (Rect.unit (s := S2x1x512) ![1, 0, 0] S1x1x512.size inb_S2x1x512_S1x1x512_1_0_0) (k0_pay7 v45) Finset.univ (View.stores_vmem h_S1x1x512 ((Memref.isWhole_whole cc0_scratch1).storeExact_slice rfl _ packedbf16_S2x1x512_S1x1x512_1_0_0) (fun _ => rfl)) (.inl rfl)) fun _ =>
                .op (.enqueueDma outL (.remote (Dev.tc (⟨k0_dev4 c, k0_dev4_lt c h⟩ : Dev nD) : Thread nD τ) slotR (.dma sndL)) (.dma rcvR) (((Memref.isWhole_whole cc0_scratch1).wordExact_slice rfl _ wordsbf16_S2x1x512_S1x1x512_1_0_0).reshape _ _) (((Memref.isWhole_whole cc0_scratch0).wordExact_slice rfl _ wordsbf16_S2x1x512_S1x1x512_1_0_0).reshape _ _) ⟨⟨rfl, Or.inl rfl⟩, trivial⟩) fun _ => k)
            else k)

/-- The transfer to the left, where there is one. -/
theorem wp_send_left (c : Dev nD) (O : CellTallies nD τ sig Unit) (W : Waits sig Unit)
    {α : Type} {Q : α → sProp 𝕄} {k : Prog (TpuEff nD τ sig (Elt F) Λ₀ .tc) α} :
    iprop(records m K ∗ xPts m c ∗ anySlot outL c ∗ payFromL c ∗ owes (c : Thread nD τ) (O + owL c) W
        ∗ dutyTok ER (sndLCell c) 0 false ∗ dutyTok ER (rcvRCell (prv c)) 0 false)
      ⊢ iprop(((xPts m c ∗ sentL c ∗ owes (c : Thread nD τ) O W) -∗ wp frame (wpE (defs₀ (F := F)) 𝒱₀ (c : Thread nD τ) none) Set.univ k Q)
          -∗ wp frame (wpE (defs₀ (F := F)) 𝒱₀ (c : Thread nD τ) none) Set.univ
            (sendLeft c k) Q) := by
  unfold sendLeft
  by_cases h : HasL c
  · rw [dif_pos ((cond2_iff c).mpr h)]
    unfold payFromL owL
    rw [if_pos h, if_pos h]
    iintro ⟨#HR, Hx, Hs, Hp, HO, Ht₁, Ht₂⟩ Hk
    iapply (wp_stage_row m K c (prv c) _ (dev4_eq c ((cond2_iff c).mpr h)) 1 0 inb_S2x1x512_S1x1x512_1_0_0 inb_S1024x512_S1x512_0_0 (2) (4) sndL rcvR rfl rfl
      ((active_sndL c).mpr h) ((active_rcvR (prv c)).mpr ((hasR_prv c).mpr h)) k0_pay7 pay7_slab (pay_sndL m c false) (by rw [pay_rcvR]; unfold fromR; rw [nxt_prv]) O W) $$ [Hx Hs Hp HO Ht₁ Ht₂]
    · isplitr; · iexact HR
      isplitl [Hx]; · iexact Hx
      isplitl [Hs]; · iexact Hs
      isplitl [Hp]; · iexact Hp
      isplitl [HO]; · iexact HO
      isplitl [Ht₁] <;> iassumption
    iintro ⟨Hx, Hc, HO⟩
    iapply Hk
    isplitl [Hx]; · iexact Hx
    isplitl [Hc]
    · unfold sentL; rw [if_pos h]; iexact Hc
    iexact HO
  · rw [dif_neg (fun h' => h ((cond2_iff c).mp h'))]
    unfold owL
    rw [if_neg h, tallyAt_zero, add_zero]
    iintro ⟨#HR, Hx, Hs, Hp, HO, Ht₁, Ht₂⟩ Hk
    iapply Hk
    isplitl [Hx]; · iexact Hx
    isplitl [Hs]
    · unfold sentL; rw [if_neg h]; iexact Hs
    iexact HO

/-- The first row of the block: with the left neighbor's row where there is one, and from the block alone where there is none. -/
def firstRow (b₁ b₂ : BitVec 1) {α : Type} (k : Prog (TpuEff nD τ sig (Elt F) Λ₀ .tc) α) : Prog (TpuEff nD τ sig (Elt F) Λ₀ .tc) α :=
  (if b₁ = 1#1 then (.op (.waitDma2 rcvL outR slotL (((Memref.isWhole_whole cc0_scratch1).wordExact_slice rfl _ wordsbf16_S2x1x512_S1x1x512_0_0_0).reshape _ _) (((Memref.isWhole_whole cc0_scratch0).wordExact_slice rfl _ wordsbf16_S2x1x512_S1x1x512_0_0_0).reshape _ _)) fun _ =>
.op (.load hM (Rect.unit (s := S2x1x512) ![0, 0, 0] S1x1x512.size inb_S2x1x512_S1x1x512_0_0_0).toLoadRect (View.loadsAt_vmem h_S1x1x512)) fun v53 =>
.op (.load xM (Rect.unit (s := S1024x512) ![1, 0] S1x512.size inb_S1024x512_S1x512_1_0).toLoadRect (View.loadsAt_vmem h_S1x512)) fun v55 =>
.op (.load xM (Rect.unit (s := S1024x512) ![0, 0] S1x512.size inb_S1024x512_S1x512_0_0).toLoadRect (View.loadsAt_vmem h_S1x512)) fun v60 =>
.op (.load oM (Rect.unit (s := S1024x512) ![0, 0] S1x512.size inb_S1024x512_S1x512_0_0).toLoadRect (View.loadsAt_vmem h_S1x512)) fun _ =>
.op (.load oM (Rect.unit (s := S1024x512) ![0, 0] S2x512.size inb_S1024x512_S2x512_0_0).toLoadRect (View.loadsAt_vmem h_S2x512)) fun old =>
.op (.store oM (Rect.unit (s := S1024x512) ![0, 0] S2x512.size inb_S1024x512_S2x512_0_0) (updateSlice old (k0_pay2 v53 v55 v60) ![0, 0] slices_S2x512_S1x512_0_0) Finset.univ (View.stores_vmem h_S2x512 ((Memref.isWhole_whole cc0_stg1_0).storeExact_slice rfl _ packedbf16_S1024x512_S2x512_0_0) (fun _ => rfl)) (.inl rfl)) fun _ => (if b₂ = 1#1 then (.op (.load xM (Rect.unit (s := S1024x512) ![0, 0] S1x512.size inb_S1024x512_S1x512_0_0).toLoadRect (View.loadsAt_vmem h_S1x512)) fun v45 =>
.op (.load oM (Rect.unit (s := S1024x512) ![0, 0] S1x512.size inb_S1024x512_S1x512_0_0).toLoadRect (View.loadsAt_vmem h_S1x512)) fun _ =>
.op (.load oM (Rect.unit (s := S1024x512) ![0, 0] S2x512.size inb_S1024x512_S2x512_0_0).toLoadRect (View.loadsAt_vmem h_S2x512)) fun old =>
.op (.store oM (Rect.unit (s := S1024x512) ![0, 0] S2x512.size inb_S1024x512_S2x512_0_0) (updateSlice old (k0_pay3 v45) ![0, 0] slices_S2x512_S1x512_0_0) Finset.univ (View.stores_vmem h_S2x512 ((Memref.isWhole_whole cc0_stg1_0).storeExact_slice rfl _ packedbf16_S1024x512_S2x512_0_0) (fun _ => rfl)) (.inl rfl)) fun _ => k) else k)) else (if b₂ = 1#1 then (.op (.load xM (Rect.unit (s := S1024x512) ![0, 0] S1x512.size inb_S1024x512_S1x512_0_0).toLoadRect (View.loadsAt_vmem h_S1x512)) fun v45 =>
.op (.load oM (Rect.unit (s := S1024x512) ![0, 0] S1x512.size inb_S1024x512_S1x512_0_0).toLoadRect (View.loadsAt_vmem h_S1x512)) fun _ =>
.op (.load oM (Rect.unit (s := S1024x512) ![0, 0] S2x512.size inb_S1024x512_S2x512_0_0).toLoadRect (View.loadsAt_vmem h_S2x512)) fun old =>
.op (.store oM (Rect.unit (s := S1024x512) ![0, 0] S2x512.size inb_S1024x512_S2x512_0_0) (updateSlice old (k0_pay3 v45) ![0, 0] slices_S2x512_S1x512_0_0) Finset.univ (View.stores_vmem h_S2x512 ((Memref.isWhole_whole cc0_stg1_0).storeExact_slice rfl _ packedbf16_S1024x512_S2x512_0_0) (fun _ => rfl)) (.inl rfl)) fun _ => k) else k))

/-- The block's first row: from the row the left neighbour sent, or, at the left end, `x`'s own. -/
theorem wp_top (c : Dev nD) (f : Buf (Elt F) ((c : Thread nD τ).loc cc0_stg1_0)) (W : Waits sig Unit)
    {α : Type} {Q : α → sProp 𝕄} {k : Prog (TpuEff nD τ sig (Elt F) Λ₀ .tc) α} {b₁ b₂ : BitVec 1}
    (h₁ : b₁ = 1#1 ↔ HasL c) (h₂ : b₂ = 1#1 ↔ ¬ HasL c) :
    iprop(records m K ∗ xPts m c ∗ oPts c f ∗ keepL c ∗ cred (tallyAt (rcvLCell c) () (if HasL c then N else 0))
        ∗ owes (c : Thread nD τ) 0 W ∗ atPos ER (rcvLCell c) 0 ∅ 0)
      ⊢ iprop(((xPts m c ∗ oPts c (VecWindow.put (s := S1024x512) f ![0 + 0, 0] ![1, 512] (topRow m c)) ∗ anySlot slotL c
              ∗ (∃ W' : Waits sig Unit, owes (c : Thread nD τ) 0 W') ∗ semVal (rcvLCell c) 0) -∗ wp frame (wpE (defs₀ (F := F)) 𝒱₀ (c : Thread nD τ) none) Set.univ k Q)
          -∗ wp frame (wpE (defs₀ (F := F)) 𝒱₀ (c : Thread nD τ) none) Set.univ
            (firstRow b₁ b₂ k) Q) := by
  unfold firstRow
  by_cases h : HasL c
  · rw [if_pos (h₁.mpr h), if_neg (fun h' => h₂.mp h' h), if_pos h]
    iintro ⟨#HR, Hx, Ho, -, Hc, HO, Hat⟩ Hk
    iapply (wp_row_wait m K c 3 rcvL rfl ((active_rcvL c).mpr h) (src := outR) (dst := slotL) rfl W) $$ [Hc HO Hat]
    · isplitr; · iexact HR
      isplitl [Hc]; · iexact Hc
      isplitl [HO] <;> iassumption
    iintro ⟨HO, Hz, Hp⟩
    ihave Hp := (Entails.of_eq (pay_rcvL m c false)) $$ Hp
    unfold holds slotPts xPts
    icases Hp with ⟨%g, %hg, Hs⟩
    ihave Ho := (Entails.of_eq (show oPts c f = (((c : Thread nD τ).loc cc0_stg1_0) ↦{fullShare} f : sProp 𝕄) from rfl)) $$ Ho
    iapply (wp_load 𝒱₀ (c : Thread nD τ) none Set.univ (m := hM) (by rw [slot_set])) $$ Hs; iintro Hs
    iapply (wp_load 𝒱₀ (c : Thread nD τ) none Set.univ (m := xM) (Finset.subset_univ _)) $$ Hx; iintro Hx
    rw [x_read]
    iapply (wp_load 𝒱₀ (c : Thread nD τ) none Set.univ (m := xM) (Finset.subset_univ _)) $$ Hx; iintro Hx
    rw [x_read]
    iapply (wp_load 𝒱₀ (c : Thread nD τ) none Set.univ (m := oM) (Finset.subset_univ _)) $$ Ho; iintro Ho
    iapply (wp_load 𝒱₀ (c : Thread nD τ) none Set.univ (m := oM) (Finset.subset_univ _)) $$ Ho; iintro Ho
    iapply (wp_store 𝒱₀ (c : Thread nD τ) none Set.univ (m := oM) (r := Rect.unit (s := S1024x512) ![0, 0] S2x512.size inb_S1024x512_S2x512_0_0) (Mk := Finset.univ) (Finset.subset_univ _)) $$ Ho; iintro Ho
    ihave Ho := (stored_row c f 0 0 inb_S1024x512_S2x512_0_0 (k0_pay2 (hM.view.readAt (Elt F) (slotRect 0 inb_S2x1x512_S1x1x512_0_0_0).toLoadRect g) (rowOf (xstg m c) 1 inb_S1024x512_S1x512_1_0) (rowOf (xstg m c) 0 inb_S1024x512_S1x512_0_0)) slices_S2x512_S1x512_0_0) $$ Ho
    ihave Ho := (Entails.of_eq (congrArg (fun w => (oPts c (VecWindow.put (s := S1024x512) f ![0 + 0, 0] ![1, 512] w) : sProp 𝕄)) (show (k0_pay2 (hM.view.readAt (Elt F) (slotRect 0 inb_S2x1x512_S1x1x512_0_0_0).toLoadRect g) (rowOf (xstg m c) 1 inb_S1024x512_S1x512_1_0) (rowOf (xstg m c) 0 inb_S1024x512_S1x512_0_0)) = topRow m c by
        unfold topRow; rw [if_pos h, slot_read, hg]))) $$ Ho
    iapply Hk
    isplitl [Hx]; · iexact Hx
    isplitl [Ho]; · iexact Ho
    isplitl [Hs]
    · unfold anySlot slotPts; iexists g; iexact Hs
    isplitl [HO]
    · iexists _; iexact HO
    iexact Hz
  · rw [if_neg (fun h' => h (h₁.mp h')), if_pos (h₂.mpr h), if_neg h, tallyAt_zero]
    unfold keepL
    rw [if_neg h]
    iintro ⟨#HR, Hx, Ho, Hs, -, HO, Hat⟩ Hk
    imod (close_idle m K c 3 rcvL rfl (fun h' => h ((active_rcvL c).mp h'))) $$ [Hat] with Hz
    · isplitr; · iexact HR
      iexact Hat
    unfold xPts
    ihave Ho := (Entails.of_eq (show oPts c f = (((c : Thread nD τ).loc cc0_stg1_0) ↦{fullShare} f : sProp 𝕄) from rfl)) $$ Ho
    iapply (wp_load 𝒱₀ (c : Thread nD τ) none Set.univ (m := xM) (Finset.subset_univ _)) $$ Hx; iintro Hx
    rw [x_read]
    iapply (wp_load 𝒱₀ (c : Thread nD τ) none Set.univ (m := oM) (Finset.subset_univ _)) $$ Ho; iintro Ho
    iapply (wp_load 𝒱₀ (c : Thread nD τ) none Set.univ (m := oM) (Finset.subset_univ _)) $$ Ho; iintro Ho
    iapply (wp_store 𝒱₀ (c : Thread nD τ) none Set.univ (m := oM) (r := Rect.unit (s := S1024x512) ![0, 0] S2x512.size inb_S1024x512_S2x512_0_0) (Mk := Finset.univ) (Finset.subset_univ _)) $$ Ho; iintro Ho
    ihave Ho := (stored_row c f 0 0 inb_S1024x512_S2x512_0_0 (k0_pay3 (rowOf (xstg m c) 0 inb_S1024x512_S1x512_0_0)) slices_S2x512_S1x512_0_0) $$ Ho
    ihave Ho := (Entails.of_eq (congrArg (fun w => (oPts c (VecWindow.put (s := S1024x512) f ![0 + 0, 0] ![1, 512] w) : sProp 𝕄)) (show k0_pay3 (rowOf (xstg m c) 0 inb_S1024x512_S1x512_0_0) = topRow m c by
        unfold topRow; rw [if_neg h]))) $$ Ho
    iapply Hk
    isplitl [Hx]; · iexact Hx
    isplitl [Ho]; · iexact Ho
    isplitl [Hs]; · iexact Hs
    isplitl [HO]
    · iexists _; iexact HO
    iexact Hz

/-- The last row of the block, likewise. -/
def lastRow (b₁ b₂ : BitVec 1) {α : Type} (k : Prog (TpuEff nD τ sig (Elt F) Λ₀ .tc) α) : Prog (TpuEff nD τ sig (Elt F) Λ₀ .tc) α :=
  (if b₁ = 1#1 then (.op (.waitDma2 rcvR outL slotR (((Memref.isWhole_whole cc0_scratch1).wordExact_slice rfl _ wordsbf16_S2x1x512_S1x1x512_1_0_0).reshape _ _) (((Memref.isWhole_whole cc0_scratch0).wordExact_slice rfl _ wordsbf16_S2x1x512_S1x1x512_1_0_0).reshape _ _)) fun _ =>
.op (.load xM (Rect.unit (s := S1024x512) ![1022, 0] S1x512.size inb_S1024x512_S1x512_1022_0).toLoadRect (View.loadsAt_vmem h_S1x512)) fun v53 =>
.op (.load hM (Rect.unit (s := S2x1x512) ![1, 0, 0] S1x1x512.size inb_S2x1x512_S1x1x512_1_0_0).toLoadRect (View.loadsAt_vmem h_S1x1x512)) fun v55 =>
.op (.load xM (Rect.unit (s := S1024x512) ![1023, 0] S1x512.size inb_S1024x512_S1x512_1023_0).toLoadRect (View.loadsAt_vmem h_S1x512)) fun v60 =>
.op (.load oM (Rect.unit (s := S1024x512) ![1023, 0] S1x512.size inb_S1024x512_S1x512_1023_0).toLoadRect (View.loadsAt_vmem h_S1x512)) fun _ =>
.op (.load oM (Rect.unit (s := S1024x512) ![1022, 0] S2x512.size inb_S1024x512_S2x512_1022_0).toLoadRect (View.loadsAt_vmem h_S2x512)) fun old =>
.op (.store oM (Rect.unit (s := S1024x512) ![1022, 0] S2x512.size inb_S1024x512_S2x512_1022_0) (updateSlice old (k0_pay4 v53 v55 v60) ![1, 0] slices_S2x512_S1x512_1_0) Finset.univ (View.stores_vmem h_S2x512 ((Memref.isWhole_whole cc0_stg1_0).storeExact_slice rfl _ packedbf16_S1024x512_S2x512_1022_0) (fun _ => rfl)) (.inl rfl)) fun _ => (if b₂ = 1#1 then (.op (.load xM (Rect.unit (s := S1024x512) ![1023, 0] S1x512.size inb_S1024x512_S1x512_1023_0).toLoadRect (View.loadsAt_vmem h_S1x512)) fun v45 =>
.op (.load oM (Rect.unit (s := S1024x512) ![1023, 0] S1x512.size inb_S1024x512_S1x512_1023_0).toLoadRect (View.loadsAt_vmem h_S1x512)) fun _ =>
.op (.load oM (Rect.unit (s := S1024x512) ![1022, 0] S2x512.size inb_S1024x512_S2x512_1022_0).toLoadRect (View.loadsAt_vmem h_S2x512)) fun old =>
.op (.store oM (Rect.unit (s := S1024x512) ![1022, 0] S2x512.size inb_S1024x512_S2x512_1022_0) (updateSlice old (k0_pay5 v45) ![1, 0] slices_S2x512_S1x512_1_0) Finset.univ (View.stores_vmem h_S2x512 ((Memref.isWhole_whole cc0_stg1_0).storeExact_slice rfl _ packedbf16_S1024x512_S2x512_1022_0) (fun _ => rfl)) (.inl rfl)) fun _ => k) else k)) else (if b₂ = 1#1 then (.op (.load xM (Rect.unit (s := S1024x512) ![1023, 0] S1x512.size inb_S1024x512_S1x512_1023_0).toLoadRect (View.loadsAt_vmem h_S1x512)) fun v45 =>
.op (.load oM (Rect.unit (s := S1024x512) ![1023, 0] S1x512.size inb_S1024x512_S1x512_1023_0).toLoadRect (View.loadsAt_vmem h_S1x512)) fun _ =>
.op (.load oM (Rect.unit (s := S1024x512) ![1022, 0] S2x512.size inb_S1024x512_S2x512_1022_0).toLoadRect (View.loadsAt_vmem h_S2x512)) fun old =>
.op (.store oM (Rect.unit (s := S1024x512) ![1022, 0] S2x512.size inb_S1024x512_S2x512_1022_0) (updateSlice old (k0_pay5 v45) ![1, 0] slices_S2x512_S1x512_1_0) Finset.univ (View.stores_vmem h_S2x512 ((Memref.isWhole_whole cc0_stg1_0).storeExact_slice rfl _ packedbf16_S1024x512_S2x512_1022_0) (fun _ => rfl)) (.inl rfl)) fun _ => k) else k))

/-- The block's last row likewise. -/
theorem wp_bottom (c : Dev nD) (f : Buf (Elt F) ((c : Thread nD τ).loc cc0_stg1_0)) (W : Waits sig Unit)
    {α : Type} {Q : α → sProp 𝕄} {k : Prog (TpuEff nD τ sig (Elt F) Λ₀ .tc) α} {b₁ b₂ : BitVec 1}
    (h₁ : b₁ = 1#1 ↔ HasR c) (h₂ : b₂ = 1#1 ↔ ¬ HasR c) :
    iprop(records m K ∗ xPts m c ∗ oPts c f ∗ keepR c ∗ cred (tallyAt (rcvRCell c) () (if HasR c then N else 0))
        ∗ owes (c : Thread nD τ) 0 W ∗ atPos ER (rcvRCell c) 0 ∅ 0)
      ⊢ iprop(((xPts m c ∗ oPts c (VecWindow.put (s := S1024x512) f ![1022 + 1, 0] ![1, 512] (botRow m c)) ∗ anySlot slotR c
              ∗ (∃ W' : Waits sig Unit, owes (c : Thread nD τ) 0 W') ∗ semVal (rcvRCell c) 0) -∗ wp frame (wpE (defs₀ (F := F)) 𝒱₀ (c : Thread nD τ) none) Set.univ k Q)
          -∗ wp frame (wpE (defs₀ (F := F)) 𝒱₀ (c : Thread nD τ) none) Set.univ
            (lastRow b₁ b₂ k) Q) := by
  unfold lastRow
  by_cases h : HasR c
  · rw [if_pos (h₁.mpr h), if_neg (fun h' => h₂.mp h' h), if_pos h]
    iintro ⟨#HR, Hx, Ho, -, Hc, HO, Hat⟩ Hk
    iapply (wp_row_wait m K c 4 rcvR rfl ((active_rcvR c).mpr h) (src := outL) (dst := slotR) rfl W) $$ [Hc HO Hat]
    · isplitr; · iexact HR
      isplitl [Hc]; · iexact Hc
      isplitl [HO] <;> iassumption
    iintro ⟨HO, Hz, Hp⟩
    ihave Hp := (Entails.of_eq (pay_rcvR m c false)) $$ Hp
    unfold holds slotPts xPts
    icases Hp with ⟨%g, %hg, Hs⟩
    ihave Ho := (Entails.of_eq (show oPts c f = (((c : Thread nD τ).loc cc0_stg1_0) ↦{fullShare} f : sProp 𝕄) from rfl)) $$ Ho
    iapply (wp_load 𝒱₀ (c : Thread nD τ) none Set.univ (m := xM) (Finset.subset_univ _)) $$ Hx; iintro Hx
    rw [x_read]
    iapply (wp_load 𝒱₀ (c : Thread nD τ) none Set.univ (m := hM) (by rw [slot_set])) $$ Hs; iintro Hs
    iapply (wp_load 𝒱₀ (c : Thread nD τ) none Set.univ (m := xM) (Finset.subset_univ _)) $$ Hx; iintro Hx
    rw [x_read]
    iapply (wp_load 𝒱₀ (c : Thread nD τ) none Set.univ (m := oM) (Finset.subset_univ _)) $$ Ho; iintro Ho
    iapply (wp_load 𝒱₀ (c : Thread nD τ) none Set.univ (m := oM) (Finset.subset_univ _)) $$ Ho; iintro Ho
    iapply (wp_store 𝒱₀ (c : Thread nD τ) none Set.univ (m := oM) (r := Rect.unit (s := S1024x512) ![1022, 0] S2x512.size inb_S1024x512_S2x512_1022_0) (Mk := Finset.univ) (Finset.subset_univ _)) $$ Ho; iintro Ho
    ihave Ho := (stored_row c f 1022 1 inb_S1024x512_S2x512_1022_0 (k0_pay4 (rowOf (xstg m c) 1022 inb_S1024x512_S1x512_1022_0) (hM.view.readAt (Elt F) (slotRect 1 inb_S2x1x512_S1x1x512_1_0_0).toLoadRect g) (rowOf (xstg m c) 1023 inb_S1024x512_S1x512_1023_0)) slices_S2x512_S1x512_1_0) $$ Ho
    ihave Ho := (Entails.of_eq (congrArg (fun w => (oPts c (VecWindow.put (s := S1024x512) f ![1022 + 1, 0] ![1, 512] w) : sProp 𝕄)) (show (k0_pay4 (rowOf (xstg m c) 1022 inb_S1024x512_S1x512_1022_0) (hM.view.readAt (Elt F) (slotRect 1 inb_S2x1x512_S1x1x512_1_0_0).toLoadRect g) (rowOf (xstg m c) 1023 inb_S1024x512_S1x512_1023_0)) = botRow m c by
        unfold botRow; rw [if_pos h, slot_read, hg]))) $$ Ho
    iapply Hk
    isplitl [Hx]; · iexact Hx
    isplitl [Ho]; · iexact Ho
    isplitl [Hs]
    · unfold anySlot slotPts; iexists g; iexact Hs
    isplitl [HO]
    · iexists _; iexact HO
    iexact Hz
  · rw [if_neg (fun h' => h (h₁.mp h')), if_pos (h₂.mpr h), if_neg h, tallyAt_zero]
    unfold keepR
    rw [if_neg h]
    iintro ⟨#HR, Hx, Ho, Hs, -, HO, Hat⟩ Hk
    imod (close_idle m K c 4 rcvR rfl (fun h' => h ((active_rcvR c).mp h'))) $$ [Hat] with Hz
    · isplitr; · iexact HR
      iexact Hat
    unfold xPts
    ihave Ho := (Entails.of_eq (show oPts c f = (((c : Thread nD τ).loc cc0_stg1_0) ↦{fullShare} f : sProp 𝕄) from rfl)) $$ Ho
    iapply (wp_load 𝒱₀ (c : Thread nD τ) none Set.univ (m := xM) (Finset.subset_univ _)) $$ Hx; iintro Hx
    rw [x_read]
    iapply (wp_load 𝒱₀ (c : Thread nD τ) none Set.univ (m := oM) (Finset.subset_univ _)) $$ Ho; iintro Ho
    iapply (wp_load 𝒱₀ (c : Thread nD τ) none Set.univ (m := oM) (Finset.subset_univ _)) $$ Ho; iintro Ho
    iapply (wp_store 𝒱₀ (c : Thread nD τ) none Set.univ (m := oM) (r := Rect.unit (s := S1024x512) ![1022, 0] S2x512.size inb_S1024x512_S2x512_1022_0) (Mk := Finset.univ) (Finset.subset_univ _)) $$ Ho; iintro Ho
    ihave Ho := (stored_row c f 1022 1 inb_S1024x512_S2x512_1022_0 (k0_pay5 (rowOf (xstg m c) 1023 inb_S1024x512_S1x512_1023_0)) slices_S2x512_S1x512_1_0) $$ Ho
    ihave Ho := (Entails.of_eq (congrArg (fun w => (oPts c (VecWindow.put (s := S1024x512) f ![1022 + 1, 0] ![1, 512] w) : sProp 𝕄)) (show k0_pay5 (rowOf (xstg m c) 1023 inb_S1024x512_S1x512_1023_0) = botRow m c by
        unfold botRow; rw [if_neg h]))) $$ Ho
    iapply Hk
    isplitl [Hx]; · iexact Hx
    isplitl [Ho]; · iexact Ho
    isplitl [Hs]; · iexact Hs
    isplitl [HO]
    · iexists _; iexact HO
    iexact Hz

/-- The wait for the transfer to the right. -/
def sentOffRight (b : BitVec 1) {α : Type} (k : Prog (TpuEff nD τ sig (Elt F) Λ₀ .tc) α) : Prog (TpuEff nD τ sig (Elt F) Λ₀ .tc) α :=
  (if b = 1#1 then (.op (.waitDma2 sndR slotL outR (((Memref.isWhole_whole cc0_scratch0).wordExact_slice rfl _ wordsbf16_S2x1x512_S1x1x512_0_0_0).reshape _ _) (((Memref.isWhole_whole cc0_scratch1).wordExact_slice rfl _ wordsbf16_S2x1x512_S1x1x512_0_0_0).reshape _ _)) fun _ => k) else k)

/-- The wait for the end of the transfer to the right, where there is one: the staged slot is the device's again. -/
theorem wp_sent_right (c : Dev nD) {α : Type} {Q : α → sProp 𝕄} {k : Prog (TpuEff nD τ sig (Elt F) Λ₀ .tc) α} {b : BitVec 1} (hb : b = 1#1 ↔ HasR c)
    (W : Waits sig Unit) :
    iprop(records m K ∗ sentR c ∗ owes (c : Thread nD τ) 0 W ∗ atPos ER (sndRCell c) 0 ∅ 0)
      ⊢ iprop(((anySlot outR c ∗ (∃ W' : Waits sig Unit, owes (c : Thread nD τ) 0 W') ∗ semVal (sndRCell c) 0) -∗ wp frame (wpE (defs₀ (F := F)) 𝒱₀ (c : Thread nD τ) none) Set.univ k Q)
          -∗ wp frame (wpE (defs₀ (F := F)) 𝒱₀ (c : Thread nD τ) none) Set.univ (sentOffRight b k) Q) := by
  unfold sentOffRight
  unfold sentR
  by_cases h : HasR c
  · rw [if_pos (hb.mpr h), if_pos h]
    iintro ⟨#HR, Hc, HO, Hat⟩ Hk
    iapply (wp_row_wait m K c 1 sndR rfl ((active_sndR c).mpr h) (src := slotL) (dst := outR) rfl W) $$ [Hc HO Hat]
    · isplitr; · iexact HR
      isplitl [Hc]; · iexact Hc
      isplitl [HO] <;> iassumption
    iintro ⟨HO, Hz, Hp⟩
    ihave Hp := (Entails.of_eq (pay_sndR m c false)) $$ Hp
    iapply Hk
    isplitl [Hp]; · iexact Hp
    isplitl [HO]
    · iexists _; iexact HO
    iexact Hz
  · rw [if_neg (fun h' => h (hb.mp h')), if_neg h]
    iintro ⟨#HR, Hs, HO, Hat⟩ Hk
    imod (close_idle m K c 1 sndR rfl (fun h' => h ((active_sndR c).mp h'))) $$ [Hat] with Hz
    · isplitr; · iexact HR
      iexact Hat
    iapply Hk
    isplitl [Hs]; · iexact Hs
    isplitl [HO]
    · iexists _; iexact HO
    iexact Hz

/-- The wait for the transfer to the left. -/
def sentOffLeft (b : BitVec 1) {α : Type} (k : Prog (TpuEff nD τ sig (Elt F) Λ₀ .tc) α) : Prog (TpuEff nD τ sig (Elt F) Λ₀ .tc) α :=
  (if b = 1#1 then (.op (.waitDma2 sndL slotR outL (((Memref.isWhole_whole cc0_scratch0).wordExact_slice rfl _ wordsbf16_S2x1x512_S1x1x512_1_0_0).reshape _ _) (((Memref.isWhole_whole cc0_scratch1).wordExact_slice rfl _ wordsbf16_S2x1x512_S1x1x512_1_0_0).reshape _ _)) fun _ => k) else k)

/-- The wait for the end of the transfer to the left, where there is one: the staged slot is the device's again. -/
theorem wp_sent_left (c : Dev nD) {α : Type} {Q : α → sProp 𝕄} {k : Prog (TpuEff nD τ sig (Elt F) Λ₀ .tc) α} {b : BitVec 1} (hb : b = 1#1 ↔ HasL c)
    (W : Waits sig Unit) :
    iprop(records m K ∗ sentL c ∗ owes (c : Thread nD τ) 0 W ∗ atPos ER (sndLCell c) 0 ∅ 0)
      ⊢ iprop(((anySlot outL c ∗ (∃ W' : Waits sig Unit, owes (c : Thread nD τ) 0 W') ∗ semVal (sndLCell c) 0) -∗ wp frame (wpE (defs₀ (F := F)) 𝒱₀ (c : Thread nD τ) none) Set.univ k Q)
          -∗ wp frame (wpE (defs₀ (F := F)) 𝒱₀ (c : Thread nD τ) none) Set.univ (sentOffLeft b k) Q) := by
  unfold sentOffLeft
  unfold sentL
  by_cases h : HasL c
  · rw [if_pos (hb.mpr h), if_pos h]
    iintro ⟨#HR, Hc, HO, Hat⟩ Hk
    iapply (wp_row_wait m K c 2 sndL rfl ((active_sndL c).mpr h) (src := slotR) (dst := outL) rfl W) $$ [Hc HO Hat]
    · isplitr; · iexact HR
      isplitl [Hc]; · iexact Hc
      isplitl [HO] <;> iassumption
    iintro ⟨HO, Hz, Hp⟩
    ihave Hp := (Entails.of_eq (pay_sndL m c false)) $$ Hp
    iapply Hk
    isplitl [Hp]; · iexact Hp
    isplitl [HO]
    · iexists _; iexact HO
    iexact Hz
  · rw [if_neg (fun h' => h (hb.mp h')), if_neg h]
    iintro ⟨#HR, Hs, HO, Hat⟩ Hk
    imod (close_idle m K c 2 sndL rfl (fun h' => h ((active_sndL c).mp h'))) $$ [Hat] with Hz
    · isplitr; · iexact HR
      iexact Hat
    iapply Hk
    isplitl [Hs]; · iexact Hs
    isplitl [HO]
    · iexists _; iexact HO
    iexact Hz

end Moves

end Cert.KernelIdeal.Halo

end
-- ==== Proof.KernelIdeal.Body.lean ====
/-
  One device's body, from its launch state to its end.
-/
module

public import proofs.«01_k».proof.Proof.KernelIdeal.Moves

@[expose] public section

noncomputable section

namespace Cert.KernelIdeal.Halo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The duty tokens device `c` pays with: its two entry signals', its transfers' at both ends. -/
def payToks (c : Dev nD) : sProp 𝕄 :=
  iprop(dutyTok ER (barCell (lft c)) 0 (decide (HasL c)) ∗ dutyTok ER (barCell (rgt c)) 0 (decide (¬ HasR c))
    ∗ dutyTok ER (sndRCell c) 0 false ∗ dutyTok ER (sndLCell c) 0 false
    ∗ dutyTok ER (rcvLCell (nxt c)) 0 false ∗ dutyTok ER (rcvRCell (prv c)) 0 false)
/-- Its positions: each of its own cells at round 0. -/
def ats (c : Dev nD) : sProp 𝕄 :=
  iprop(atPos ER (barCell c) 0 ∅ 0 ∗ atPos ER (sndRCell c) 0 ∅ 0 ∗ atPos ER (sndLCell c) 0 ∅ 0 ∗ atPos ER (rcvLCell c) 0 ∅ 0 ∗ atPos ER (rcvRCell c) 0 ∅ 0)
/-- The credits it waits with. -/
def creds (c : Dev nD) : sProp 𝕄 :=
  iprop(cred (tallyAt (barCell c) () 2) ∗ cred (tallyAt (rcvLCell c) () (if HasL c then N else 0)) ∗ cred (tallyAt (rcvRCell c) () (if HasR c then N else 0)))
/-- The four slots of its two scratch buffers. -/
def slots (c : Dev nD) : sProp 𝕄 := iprop(anySlot slotL c ∗ anySlot slotR c ∗ anySlot outR c ∗ anySlot outL c)

omit [FloatOps F] in
/-- The signal to the left carries the halo slot a left neighbour is to write. -/
theorem give_left (c : Dev nD) : (anySlot slotL c : sProp 𝕄) ⊢ iprop(pay m (lft c) (.reg barS) (decide (HasL c)) ∗ keepL c) := by
  unfold keepL
  by_cases h : HasL c
  · rw [decide_eq_true h, pay_bar_true, if_pos h, lft_eq c h]; unfold payFromR
    rw [if_pos ((hasR_prv c).mpr h), nxt_prv]
    iintro H; isplitl [H]; · iexact H
    iempintro
  · rw [decide_eq_false h, pay_bar_false, if_neg h, lft_end c h]; unfold payFromL
    rw [if_neg h]
    iintro H; isplitr; · iempintro
    iexact H
omit [FloatOps F] in
/-- The signal to the right likewise. -/
theorem give_right (c : Dev nD) : (anySlot slotR c : sProp 𝕄) ⊢ iprop(pay m (rgt c) (.reg barS) (decide (¬ HasR c)) ∗ keepR c) := by
  unfold keepR
  by_cases h : HasR c
  · rw [decide_eq_false (fun h' => h' h), pay_bar_false, if_pos h, rgt_eq c h]; unfold payFromL
    rw [if_pos ((hasL_nxt c).mpr h), prv_nxt]
    iintro H; isplitl [H]; · iexact H
    iempintro
  · rw [decide_eq_true h, pay_bar_true, if_neg h, rgt_end c h]; unfold payFromR
    rw [if_neg h]
    iintro H; isplitr; · iempintro
    iexact H

/-- The body's conditions on the device, as it computes them. -/
abbrev posn (c : Dev nD) : BitVec 32 := Scalar.remsi (Scalar.divsi (Dev.word c) 1#32) 4#32
abbrev hasLw (c : Dev nD) : BitVec 1 := Scalar.cmpi .sgt (posn c) 0#32
abbrev hasRw (c : Dev nD) : BitVec 1 := Scalar.cmpi .slt (posn c) 3#32
theorem onL_iff : ∀ c : Dev nD, Scalar.cmpi .ne (Scalar.extui (hasLw c)) 0#32 = 1#1 ↔ HasL c := by decide +kernel
theorem onR_iff : ∀ c : Dev nD, Scalar.cmpi .ne (Scalar.extui (hasRw c)) 0#32 = 1#1 ↔ HasR c := by decide +kernel
theorem offL_iff : ∀ c : Dev nD, Scalar.cmpi .ne (Scalar.extui (Scalar.xori (hasLw c) 1#1)) 0#32 = 1#1 ↔ ¬ HasL c := by decide +kernel
theorem offR_iff : ∀ c : Dev nD, Scalar.cmpi .ne (Scalar.extui (Scalar.xori (hasRw c) 1#1)) 0#32 = 1#1 ↔ ¬ HasR c := by decide +kernel

/-- Rows 0, 2 and 1 on, of the block: what the inner rows are computed from; the inner rows. -/
abbrev above (x : S1024x512.Idx → Elt F .bf16) : Vec F S1022x512 .bf16 := VecWindow.window (s := S1024x512) x ![0, 0] S1022x512.size inb_S1024x512_S1022x512_0_0
abbrev below (x : S1024x512.Idx → Elt F .bf16) : Vec F S1022x512 .bf16 := VecWindow.window (s := S1024x512) x ![2, 0] S1022x512.size inb_S1024x512_S1022x512_2_0
abbrev middle (x : S1024x512.Idx → Elt F .bf16) : Vec F S1022x512 .bf16 := VecWindow.window (s := S1024x512) x ![1, 0] S1022x512.size inb_S1024x512_S1022x512_1_0
def innerRows (c : Dev nD) : Vec F S1022x512 .bf16 :=
  k0_pay1 (k0_pay8 (above (xstg m c)) (below (xstg m c))) (k0_pay9 (middle (xstg m c))) k0_pay10

/-- The kernel's result on device `c`: every row of the block replaced. -/
def outAt (c : Dev nD) : (cc0_stg1_0 : Ref sig .tc).ty.Contents (Elt F) := blockOf (xstg m c) (innerRows m c) (topRow m c) (botRow m c)

/-- The kernel's first part, its transfers' starts named. -/
def firstPart : Prog (TpuEff nD τ sig (Elt F) Λ₀ .tc) (Σ' (v3 : BitVec 1) (v4 : BitVec 1) (v8 : BitVec 32) (v9 : BitVec 32) (v24 : FVec F S1022x512 .bf16) (v26 : FVec F S1022x512 .bf16), FVec F S1022x512 .bf16) :=
  .op .deviceId fun c =>
  .op (.semSignal (Dev.tc (⟨k0_dev1 c, k0_dev1_lt c⟩ : Dev nD)) barS (1#32 : BitVec 32).toNat) fun _ =>
  .op (.semSignal (Dev.tc (⟨k0_dev2 c, k0_dev2_lt c⟩ : Dev nD)) barS (1#32 : BitVec 32).toNat) fun _ =>
  .op (.semWait barS (2#32 : BitVec 32).toNat) fun _ =>
  sendRight c (sendLeft c
    (.op (.load xM (Rect.unit (s := S1024x512) ![0, 0] S1022x512.size inb_S1024x512_S1022x512_0_0).toLoadRect (View.loadsAt_vmem h_S1022x512)) fun v18 =>
    .op (.load xM (Rect.unit (s := S1024x512) ![2, 0] S1022x512.size inb_S1024x512_S1022x512_2_0).toLoadRect (View.loadsAt_vmem h_S1022x512)) fun v20 =>
    .op (.load xM (Rect.unit (s := S1024x512) ![1, 0] S1022x512.size inb_S1024x512_S1022x512_1_0).toLoadRect (View.loadsAt_vmem h_S1022x512)) fun v25 =>
    .ret ⟨hasLw c, hasRw c, Scalar.maxsi (Scalar.subi (posn c) 1#32) 0#32, Scalar.minsi (Scalar.addi (posn c) 1#32) 3#32, k0_pay8 v18 v20, k0_pay9 v25, k0_pay10⟩))

theorem firstPart_eq : k0_part1 (F := F) (Memref.whole cc0_stg0_0) (Memref.isWhole_whole _) (Memref.whole cc0_stg1_0) (Memref.isWhole_whole _)
    (Memref.whole cc0_scratch0) (Memref.isWhole_whole _) (Memref.whole cc0_scratch1) (Memref.isWhole_whole _) cc0_scratch2 cc0_scratch3 = firstPart :=
  (congrFun (congrFun (congrFun (congrFun (congrFun (congrFun (congrFun (congrFun (congrFun (congrFun k0_part1_eq_skeleton _) _) _) _) _) _) _) _) _) _).trans rfl

/-- The rest of it: the inner rows, the two boundary rows, the waits for what was sent. -/
def lastPart (b₁ b₂ : BitVec 1) (v24 v26 v27 : FVec F S1022x512 .bf16) : Prog (TpuEff nD τ sig (Elt F) Λ₀ .tc) PUnit :=
  .op (.load oM (Rect.unit (s := S1024x512) ![1, 0] S1022x512.size inb_S1024x512_S1022x512_1_0).toLoadRect (View.loadsAt_vmem h_S1022x512)) fun _ =>
  .op (.load oM (Rect.unit (s := S1024x512) ![0, 0] S1024x512.size inb_S1024x512_S1024x512_0_0).toLoadRect (View.loadsAt_vmem h_S1024x512)) fun old =>
  .op (.store oM (Rect.unit (s := S1024x512) ![0, 0] S1024x512.size inb_S1024x512_S1024x512_0_0) (updateSlice old (k0_pay1 v24 v26 v27) ![1, 0] slices_S1024x512_S1022x512_1_0) Finset.univ
    (View.stores_vmem h_S1024x512 ((Memref.isWhole_whole cc0_stg1_0).storeExact_slice rfl _ packedbf16_S1024x512_S1024x512_0_0) (fun _ => rfl)) (.inl rfl)) fun _ =>
  firstRow (Scalar.cmpi .ne (Scalar.extui b₁) 0#32) (Scalar.cmpi .ne (Scalar.extui (Scalar.xori b₁ 1#1)) 0#32)
    (lastRow (Scalar.cmpi .ne (Scalar.extui b₂) 0#32) (Scalar.cmpi .ne (Scalar.extui (Scalar.xori b₂ 1#1)) 0#32)
      (sentOffRight (Scalar.cmpi .ne (Scalar.extui b₂) 0#32) (sentOffLeft (Scalar.cmpi .ne (Scalar.extui b₁) 0#32) (.ret ⟨⟩))))

theorem body_eq : cc0_body (F := F) (Memref.whole cc0_stg0_0) (Memref.isWhole_whole _) (Memref.whole cc0_stg1_0) (Memref.isWhole_whole _)
    (Memref.whole cc0_scratch0) (Memref.isWhole_whole _) (Memref.whole cc0_scratch1) (Memref.isWhole_whole _) cc0_scratch2 cc0_scratch3
      = (firstPart >>= fun r => lastPart r.1 r.2.1 r.2.2.2.2.1 r.2.2.2.2.2.1 r.2.2.2.2.2.2) := by
  rw [← firstPart_eq]
  exact (congrFun (congrFun (congrFun (congrFun (congrFun (congrFun (congrFun (congrFun (congrFun (congrFun cc0_body_eq_skeleton _) _) _) _) _) _) _) _) _) _).trans rfl

omit [FloatOps F] in
/-- The store of the inner rows, as one of the whole block. -/
theorem stored_all (c : Dev nD) (f : (cc0_stg1_0 : Ref sig .tc).ty.Contents (Elt F))
    (inb : ∀ i, (![0, 0] : Fin 2 → ℕ) i + S1024x512.size i ≤ S1024x512.size i) (w : Vec F S1022x512 .bf16) (hs : S1024x512.Slices ![1, 0] S1022x512) :
    (((oM.access (Rect.unit (s := S1024x512) ![0, 0] S1024x512.size inb)).loc (c : Thread nD τ) ↦{fullShare} ((oM.access (Rect.unit (s := S1024x512) ![0, 0] S1024x512.size inb)).write (Elt F) f
        (updateSlice (oM.view.readAt (Elt F) (Rect.unit (s := S1024x512) ![0, 0] S1024x512.size inb).toLoadRect f) w ![1, 0] hs) Finset.univ)) : sProp 𝕄)
      ⊢ oPts c (VecWindow.put (s := S1024x512) f ![0 + 1, 0] ![1022, 512] w) := stored c f 0 1 1024 1022 inb w hs

section Body
variable (K : Dev nD × Fin 5 → ℕ)

/-- The first part: the handshake, both transfers' starts, the loads of the inner rows' operands. -/
theorem wp_part1 (c : Dev nD) (W : Waits sig Unit) {Q : (Σ' (v3 : BitVec 1) (v4 : BitVec 1) (v8 : BitVec 32) (v9 : BitVec 32) (v24 : FVec F S1022x512 .bf16) (v26 : FVec F S1022x512 .bf16), FVec F S1022x512 .bf16) → sProp 𝕄} :
    iprop(records m K ∗ xPts m c ∗ slots c ∗ cred (tallyAt (barCell c) () 2) ∗ levAts L lv ∗ owes (c : Thread nD τ) (O₀ c) W
        ∗ atPos ER (barCell c) 0 ∅ 0 ∗ payToks c)
      ⊢ iprop(((xPts m c ∗ keepL c ∗ keepR c ∗ sentR c ∗ sentL c ∗ semVal (barCell c) 0 ∗ (∃ W' : Waits sig Unit, owes (c : Thread nD τ) 0 W'))
            -∗ Q ⟨hasLw c, hasRw c, Scalar.maxsi (Scalar.subi (posn c) 1#32) 0#32, Scalar.minsi (Scalar.addi (posn c) 1#32) 3#32,
                k0_pay8 (above (xstg m c)) (below (xstg m c)), k0_pay9 (middle (xstg m c)), k0_pay10⟩)
          -∗ wp frame (wpE (defs₀ (F := F)) 𝒱₀ (c : Thread nD τ) none) Set.univ firstPart Q) := by
  unfold firstPart slots payToks
  rw [wp_deviceId]
  dsimp only
  rw [dev1_eq c, dev2_eq c]
  iintro ⟨#HR, Hx, ⟨HsL, HsR, HoR, HoL⟩, Hcb, #Hlev, HO, Hat, Ht₁, Ht₂, Hs₁, Hs₂, Hr₁, Hr₂⟩ Hk
  ihave HgL := (give_left m c) $$ HsL
  icases HgL with ⟨HpL, HkL⟩
  ihave HgR := (give_right m c) $$ HsR
  icases HgR with ⟨HpR, HkR⟩
  unfold O₀
  iapply (wp_enter m K c (lft c) (decide (HasL c)) (O₁ c) W) $$ [HO Ht₁ HpL]
  · isplitr; · iexact HR
    isplitl [HO]; · iexact HO
    isplitl [Ht₁] <;> iassumption
  iintro HO
  unfold O₁
  iapply (wp_enter m K c (rgt c) (decide (¬ HasR c)) (O₂ c) W) $$ [HO Ht₂ HpR]
  · isplitr; · iexact HR
    isplitl [HO]; · iexact HO
    isplitl [Ht₂] <;> iassumption
  iintro HO
  iapply (wp_entered m K c W) $$ [Hcb HO Hat]
  · isplitr; · iexact HR
    isplitl [Hcb]; · iexact Hcb
    isplitl [HO]; · iexact HO
    isplitr; · iexact Hlev
    iexact Hat
  iintro ⟨HO, Hz, HnL, HnR⟩
  unfold O₂
  iapply (wp_send_right m K c (owL c) _) $$ [Hx HoR HnR HO Hs₁ Hr₁]
  · isplitr; · iexact HR
    isplitl [Hx]; · iexact Hx
    isplitl [HoR]; · iexact HoR
    isplitl [HnR]; · iexact HnR
    isplitl [HO]; · iexact HO
    isplitl [Hs₁] <;> iassumption
  iintro ⟨Hx, HsR, HO⟩
  ihave HO := (Entails.of_eq (congrArg (fun O => (owes (c : Thread nD τ) O _ : sProp 𝕄)) (zero_add (owL c)).symm)) $$ HO
  iapply (wp_send_left m K c 0 _) $$ [Hx HoL HnL HO Hs₂ Hr₂]
  · isplitr; · iexact HR
    isplitl [Hx]; · iexact Hx
    isplitl [HoL]; · iexact HoL
    isplitl [HnL]; · iexact HnL
    isplitl [HO]; · iexact HO
    isplitl [Hs₂] <;> iassumption
  iintro ⟨Hx, HsL, HO⟩
  unfold xPts
  iapply (wp_load 𝒱₀ (c : Thread nD τ) none Set.univ (m := xM) (Finset.subset_univ _)) $$ Hx; iintro Hx
  rw [x_read]
  iapply (wp_load 𝒱₀ (c : Thread nD τ) none Set.univ (m := xM) (Finset.subset_univ _)) $$ Hx; iintro Hx
  rw [x_read]
  iapply (wp_load 𝒱₀ (c : Thread nD τ) none Set.univ (m := xM) (Finset.subset_univ _)) $$ Hx; iintro Hx
  rw [x_read]
  rw [wp_ret]; imodintro
  iapply Hk
  isplitl [Hx]; · iexact Hx
  isplitl [HkL]; · iexact HkL
  isplitl [HkR]; · iexact HkR
  isplitl [HsR]; · iexact HsR
  isplitl [HsL]; · iexact HsL
  isplitl [Hz]; · iexact Hz
  iexists _; iexact HO

/-- The three stores together leave the result block. -/
theorem whole_eq (c : Dev nD) (f : (cc0_stg1_0 : Ref sig .tc).ty.Contents (Elt F)) :
    (oPts c (VecWindow.put (s := S1024x512) (VecWindow.put (s := S1024x512) (VecWindow.put (s := S1024x512) f ![0 + 1, 0] ![1022, 512]
      (k0_pay1 (k0_pay8 (above (xstg m c)) (below (xstg m c))) (k0_pay9 (middle (xstg m c))) k0_pay10)) ![0 + 0, 0] ![1, 512] (topRow m c)) ![1022 + 1, 0] ![1, 512] (botRow m c)) : sProp 𝕄)
      = oPts c (outAt m c) := congrArg (oPts c) (blockOf_base f (innerRows m c) (topRow m c) (botRow m c) (xstg m c))

/-- The rest: the whole block replaced, and the four slots and the counters of the semaphores the device's again. -/
theorem wp_part2 (c : Dev nD) (f : Buf (Elt F) ((c : Thread nD τ).loc cc0_stg1_0)) (W : Waits sig Unit) {Q : PUnit → sProp 𝕄} :
    iprop(records m K ∗ xPts m c ∗ oPts c f ∗ keepL c ∗ keepR c ∗ sentR c ∗ sentL c
        ∗ cred (tallyAt (rcvLCell c) () (if HasL c then N else 0)) ∗ cred (tallyAt (rcvRCell c) () (if HasR c then N else 0))
        ∗ owes (c : Thread nD τ) 0 W ∗ atPos ER (sndRCell c) 0 ∅ 0 ∗ atPos ER (sndLCell c) 0 ∅ 0 ∗ atPos ER (rcvLCell c) 0 ∅ 0 ∗ atPos ER (rcvRCell c) 0 ∅ 0)
      ⊢ iprop(((xPts m c ∗ oPts c (outAt m c) ∗ slots c ∗ (∃ W' : Waits sig Unit, owes (c : Thread nD τ) 0 W')
              ∗ semVal (sndRCell c) 0 ∗ semVal (sndLCell c) 0 ∗ semVal (rcvLCell c) 0 ∗ semVal (rcvRCell c) 0) -∗ Q ⟨⟩)
          -∗ wp frame (wpE (defs₀ (F := F)) 𝒱₀ (c : Thread nD τ) none) Set.univ
            (lastPart (hasLw c) (hasRw c) (k0_pay8 (above (xstg m c)) (below (xstg m c))) (k0_pay9 (middle (xstg m c))) k0_pay10) Q) := by
  unfold lastPart
  iintro ⟨#HR, Hx, Ho, HkL, HkR, HsR, HsL, HcL, HcR, HO, Ha₁, Ha₂, Ha₃, Ha₄⟩ Hk
  ihave Ho := (Entails.of_eq (show oPts c f = (((c : Thread nD τ).loc cc0_stg1_0) ↦{fullShare} f : sProp 𝕄) from rfl)) $$ Ho
  iapply (wp_load 𝒱₀ (c : Thread nD τ) none Set.univ (m := oM) (Finset.subset_univ _)) $$ Ho; iintro Ho
  iapply (wp_load 𝒱₀ (c : Thread nD τ) none Set.univ (m := oM) (Finset.subset_univ _)) $$ Ho; iintro Ho
  iapply (wp_store 𝒱₀ (c : Thread nD τ) none Set.univ (m := oM) (r := Rect.unit (s := S1024x512) ![0, 0] S1024x512.size inb_S1024x512_S1024x512_0_0) (Mk := Finset.univ) (Finset.subset_univ _)) $$ Ho; iintro Ho
  ihave Ho := (stored_all c f inb_S1024x512_S1024x512_0_0 (k0_pay1 (k0_pay8 (above (xstg m c)) (below (xstg m c))) (k0_pay9 (middle (xstg m c))) k0_pay10) slices_S1024x512_S1022x512_1_0) $$ Ho
  iapply (wp_top m K c _ W (onL_iff c) (offL_iff c)) $$ [Hx Ho HkL HcL HO Ha₃]
  · isplitr; · iexact HR
    isplitl [Hx]; · iexact Hx
    isplitl [Ho]; · iexact Ho
    isplitl [HkL]; · iexact HkL
    isplitl [HcL]; · iexact HcL
    isplitl [HO] <;> iassumption
  iintro ⟨Hx, Ho, HlL, ⟨%W₁, HO⟩, Hz₃⟩
  iapply (wp_bottom m K c _ W₁ (onR_iff c) (offR_iff c)) $$ [Hx Ho HkR HcR HO Ha₄]
  · isplitr; · iexact HR
    isplitl [Hx]; · iexact Hx
    isplitl [Ho]; · iexact Ho
    isplitl [HkR]; · iexact HkR
    isplitl [HcR]; · iexact HcR
    isplitl [HO] <;> iassumption
  iintro ⟨Hx, Ho, HlR, ⟨%W₂, HO⟩, Hz₄⟩
  iapply (wp_sent_right m K c (onR_iff c) W₂) $$ [HsR HO Ha₁]
  · isplitr; · iexact HR
    isplitl [HsR]; · iexact HsR
    isplitl [HO] <;> iassumption
  iintro ⟨HoR, ⟨%W₃, HO⟩, Hz₁⟩
  iapply (wp_sent_left m K c (onL_iff c) W₃) $$ [HsL HO Ha₂]
  · isplitr; · iexact HR
    isplitl [HsL]; · iexact HsL
    isplitl [HO] <;> iassumption
  iintro ⟨HoL, HO, Hz₂⟩
  rw [wp_ret]; imodintro
  ihave Ho := (Entails.of_eq (whole_eq m c f)) $$ Ho
  iapply Hk
  isplitl [Hx]; · iexact Hx
  isplitl [Ho]; · iexact Ho
  isplitl [HlL HlR HoR HoL]
  · unfold slots
    isplitl [HlL]; · iexact HlL
    isplitl [HlR]; · iexact HlR
    isplitl [HoR] <;> iassumption
  isplitl [HO]; · iexact HO
  isplitl [Hz₁]; · iexact Hz₁
  isplitl [Hz₂]; · iexact Hz₂
  isplitl [Hz₃] <;> iassumption

/-- The body, from a device's launch state to its end. -/
theorem wp_body (c : Dev nD) (f : Buf (Elt F) ((c : Thread nD τ).loc cc0_stg1_0)) (W : Waits sig Unit) {Q : PUnit → sProp 𝕄} :
    iprop(records m K ∗ ats c ∗ payToks c ∗ creds c ∗ levAts L lv ∗ slots c ∗ xPts m c ∗ oPts c f ∗ owes (c : Thread nD τ) (O₀ c) W)
      ⊢ iprop(((xPts m c ∗ oPts c (outAt m c) ∗ slots c ∗ (∃ W' : Waits sig Unit, owes (c : Thread nD τ) 0 W')
              ∗ semVal (barCell c) 0 ∗ semVal (sndRCell c) 0 ∗ semVal (sndLCell c) 0 ∗ semVal (rcvLCell c) 0 ∗ semVal (rcvRCell c) 0) -∗ Q ⟨⟩)
          -∗ wp frame (wpE (defs₀ (F := F)) 𝒱₀ (c : Thread nD τ) none) Set.univ
            (cc0_body (Memref.whole cc0_stg0_0) (Memref.isWhole_whole _) (Memref.whole cc0_stg1_0) (Memref.isWhole_whole _)
              (Memref.whole cc0_scratch0) (Memref.isWhole_whole _) (Memref.whole cc0_scratch1) (Memref.isWhole_whole _) cc0_scratch2 cc0_scratch3) Q) := by
  rw [body_eq, wp_bind]
  unfold ats creds
  iintro ⟨#HR, ⟨Ha₀, Ha₁, Ha₂, Ha₃, Ha₄⟩, Ht, ⟨Hcb, HcL, HcR⟩, #Hlev, Hs, Hx, Ho, HO⟩ Hk
  iapply (wp_part1 m K c W) $$ [Hx Hs Hcb HO Ha₀ Ht]
  · isplitr; · iexact HR
    isplitl [Hx]; · iexact Hx
    isplitl [Hs]; · iexact Hs
    isplitl [Hcb]; · iexact Hcb
    isplitr; · iexact Hlev
    isplitl [HO]; · iexact HO
    isplitl [Ha₀] <;> iassumption
  iintro ⟨Hx, HkL, HkR, HsR, HsL, Hz₀, ⟨%W', HO⟩⟩
  iapply (wp_part2 m K c f W') $$ [Hx Ho HkL HkR HsR HsL HcL HcR HO Ha₁ Ha₂ Ha₃ Ha₄]
  · isplitr; · iexact HR
    isplitl [Hx]; · iexact Hx
    isplitl [Ho]; · iexact Ho
    isplitl [HkL]; · iexact HkL
    isplitl [HkR]; · iexact HkR
    isplitl [HsR]; · iexact HsR
    isplitl [HsL]; · iexact HsL
    isplitl [HcL]; · iexact HcL
    isplitl [HcR]; · iexact HcR
    isplitl [HO]; · iexact HO
    isplitl [Ha₁]; · iexact Ha₁
    isplitl [Ha₂]; · iexact Ha₂
    isplitl [Ha₃] <;> iassumption
  iintro ⟨Hx, Ho, Hs, HO, Hz₁, Hz₂, Hz₃, Hz₄⟩
  iapply Hk
  isplitl [Hx]; · iexact Hx
  isplitl [Ho]; · iexact Ho
  isplitl [Hs]; · iexact Hs
  isplitl [HO]; · iexact HO
  isplitl [Hz₀]; · iexact Hz₀
  isplitl [Hz₁]; · iexact Hz₁
  isplitl [Hz₂]; · iexact Hz₂
  isplitl [Hz₃] <;> iassumption

end Body

end Cert.KernelIdeal.Halo

end
-- ==== Proof.KernelIdeal.Device.lean ====
/-
  One device's share of the launch, and its body's obligation.
-/
module

public import proofs.«01_k».proof.Proof.KernelIdeal.Body

@[expose] public section

noncomputable section

namespace Cert.KernelIdeal.Halo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## What a device starts and ends with -/

/-- What the launch deals device `c`: the records of every cell, its positions and its tokens. -/
def G' (c : Dev nD) : sProp 𝕄 := iprop(∃ K : Dev nD × Fin 5 → ℕ, records m K ∗ ats c ∗ payToks c)

/-- With its credits and the levels: what its body starts from, besides its slots. -/
def start (c : Dev nD) : sProp 𝕄 := iprop(G' m c ∗ creds c ∗ levAts L lv)
def Φ₀ (c : Dev nD) : sProp 𝕄 := iprop(start m c ∗ slots c)
/-- At the end: its slots, and its five semaphores at zero. -/
def Φ₁ (c : Dev nD) : sProp 𝕄 :=
  iprop(slots c ∗ semVal (barCell c) 0 ∗ semVal (sndRCell c) 0 ∗ semVal (sndLCell c) 0 ∗ semVal (rcvLCell c) 0 ∗ semVal (rcvRCell c) 0)

/-- The windows: the block of `x` is left as it was, the result block becomes `outAt`. -/
def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
/-- Owning a whole buffer that reads as `X` is its share at contents `X`. -/
theorem owns_buffer (c : Dev nD) (b : Ref sig .tc) (X : b.ty.Contents (Elt F)) :
    (owns (Ix := Unit) (Name := ℕ) (U := UU) (Lvl := ℕ) (c : Thread nD τ) (Memref.whole b) fullShare X : sProp 𝕄)
      = (((c : Thread nD τ).loc b) ↦{fullShare} X) := by
  have e₁ : (iprop(∃ f : Buf (Elt F) ((c : Thread nD τ).loc b), ⌜f = X⌝ ∗ (((c : Thread nD τ).loc b) ↦{fullShare} f)) : sProp 𝕄)
      ⊢ (((c : Thread nD τ).loc b) ↦{fullShare} X) := by
    iintro ⟨%f, %hf, H⟩; subst hf; iexact H
  have e₂ : ((((c : Thread nD τ).loc b) ↦{fullShare} X) : sProp 𝕄)
      ⊢ iprop(∃ f : Buf (Elt F) ((c : Thread nD τ).loc b), ⌜f = X⌝ ∗ (((c : Thread nD τ).loc b) ↦{fullShare} f)) := by
    iintro H; iexists X; isplitr; · (ipureintro; rfl)
    iexact H
  unfold owns
  simp only [Memref.view_whole, View.read_whole, View.set_whole]
  exact Entails.antisymm e₁ e₂

theorem fetched (t : Fin cfg0.N) : (cfg0.win (0 : Fin 2)).fetch t = true := by rw [fin_N0 t]; rfl

/-- What the body finds in the staging buffer of `x`. -/
theorem before_x (c : Dev nD) (d) : (dats m 0 c).before (0 : Fin 2) t0_0 d = xstg m c := by
  unfold Dat.before; rw [if_pos (fetched t0_0)]; rfl

/-- The body's starting state as the launch states it, and its end. -/
def bodyPre (c : Dev nD) : sProp 𝕄 :=
  iprop(Φ₀ m c ∗ (dats m 0 c).owesAt () t0_0.castSucc
    ∗ (∃ d, ((c : Thread nD τ).loc cc0_stg0_0) ↦{fullShare} ((dats m 0 c).before (0 : Fin 2) t0_0 d))
    ∗ (∃ d, ((c : Thread nD τ).loc cc0_stg1_0) ↦{fullShare} ((dats m 0 c).before (1 : Fin 2) t0_0 d)))
def bodyPost (c : Dev nD) : sProp 𝕄 :=
  iprop(Φ₁ c ∗ (dats m 0 c).owesAt () t0_0.succ ∗ xPts m c ∗ oPts c (outAt m c))

/-- From the one to the other. -/
theorem wp_device (c : Dev nD) : bodyPre m c ⊢ wp frame (wpE (defs₀ (F := F)) 𝒱₀ (c : Thread nD τ) none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3)
    (fun _ => bodyPost m c) := by
  unfold bodyPre bodyPost Φ₀ Φ₁ start G' Dat.owesAt Pipeline.owesWithin
  simp only [before_x]
  iintro ⟨⟨⟨⟨%K, #HR, Hat, Ht⟩, Hc, #Hlev⟩, Hs⟩, ⟨%W, %hW, HO⟩, ⟨%d0, Hx⟩, ⟨%d1, Ho⟩⟩
  iapply (wp_body m K c _ W) $$ [Hat Ht Hc Hs HO Hx Ho]
  · isplitr; · iexact HR
    isplitl [Hat]; · iexact Hat
    isplitl [Ht]; · iexact Ht
    isplitl [Hc]; · iexact Hc
    isplitr; · iexact Hlev
    isplitl [Hs]; · iexact Hs
    isplitl [Hx]; · unfold xPts; iexact Hx
    isplitl [Ho]; · unfold oPts; iexact Ho
    iexact HO
  iintro ⟨Hx, Ho, Hs, ⟨%W', HO⟩, Hz⟩
  isplitl [Hs Hz]
  · isplitl [Hs] <;> iassumption
  isplitl [HO]
  · iexists W'
    isplitr; · ipureintro; exact fun _ _ => Or.inl trivial
    iexact HO
  isplitl [Hx] <;> iassumption

set_option maxRecDepth 4000 in
/-- The obligation the launch has of device `c`'s body. -/
theorem body_obligation (c : Dev nD) : BodyObligation (dats (F := F) m 0 c) (defs₀ (F := F)) 𝒱₀ () Set.univ := fun t => by
  rw [fin_N0 t]
  rw [show (bigSep Finset.univ : (Fin cfg0.W → sProp 𝕄) → sProp 𝕄) = fun Φ => iprop(Φ (0 : Fin 2) ∗ Φ (1 : Fin 2)) from funext fun Φ => bigSep_W0 Φ]
  simp only [owns_buffer]
  exact wp_device m c

end Cert.KernelIdeal.Halo

end
-- ==== Proof.KernelIdeal.Deal.lean ====
/-
  What the launch makes and how it is dealt: the cells and their tokens, the debts' credits.
-/
module

public import proofs.«01_k».proof.Proof.KernelIdeal.Device

@[expose] public section

noncomputable section

namespace Cert.KernelIdeal.Halo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The tokens -/

theorem kcell_injective : Function.Injective (kcell : Dev nD × Fin 5 → GSem nD τ sig) := by
  rintro ⟨c, k⟩ ⟨c', k'⟩ h
  have hc : c = c' := congrArg (fun g : GSem nD τ sig => g.1.1) h
  have hk : csem k = csem k' := congrArg Prod.snd h
  have inj : ∀ a b : Fin 5, csem a = csem b → a = b := by decide
  rw [hc, inj _ _ hk]
def allCells : Finset (GSem nD τ sig) := Finset.univ.map ⟨kcell, kcell_injective⟩

/-- A cell's duties by number: the barrier's two, each transfer semaphore's one. -/
abbrev dutyOf : Fin 6 → SemLoc sig × Bool := fun
  | 0 => (.reg barS, false) | 1 => (.reg barS, true) | 2 => (.dma sndR, false) | 3 => (.dma sndL, false) | 4 => (.dma rcvL, false) | 5 => (.dma rcvR, false)
abbrev tokOf (cj : Dev nD × Fin 6) : GSem nD τ sig × ℕ × Bool := (((cj.1 : Thread nD τ), (dutyOf cj.2).1), 0, (dutyOf cj.2).2)
theorem tokOf_injective : Function.Injective (tokOf : Dev nD × Fin 6 → GSem nD τ sig × ℕ × Bool) := by
  rintro ⟨c, j⟩ ⟨c', j'⟩ h
  have hc : c = c' := congrArg (fun x : GSem nD τ sig × ℕ × Bool => x.1.1.1) h
  have h₁ : (dutyOf j).1 = (dutyOf j').1 := congrArg (fun x : GSem nD τ sig × ℕ × Bool => x.1.2) h
  have h₂ : (dutyOf j).2 = (dutyOf j').2 := congrArg (fun x : GSem nD τ sig × ℕ × Bool => x.2.2) h
  have inj : ∀ a b : Fin 6, (dutyOf a).1 = (dutyOf b).1 → (dutyOf a).2 = (dutyOf b).2 → a = b := by decide
  rw [hc, inj _ _ h₁ h₂]
def allToks : Finset (GSem nD τ sig × ℕ × Bool) := Finset.univ.map ⟨tokOf, tokOf_injective⟩

/-- The tokens of device `c`'s own cells. -/
def ownToks (c : Dev nD) : sProp 𝕄 :=
  iprop((dutyTok ER (barCell c) 0 false ∗ dutyTok ER (barCell c) 0 true) ∗ dutyTok ER (sndRCell c) 0 false ∗ dutyTok ER (sndLCell c) 0 false
    ∗ dutyTok ER (rcvLCell c) 0 false ∗ dutyTok ER (rcvRCell c) 0 false)

/-- Whose barrier an entry signal raises, and under which duty: the signal to the left (`false`), to the right (`true`). -/
def signalOf (x : Dev nD × Bool) : Dev nD × Bool := if x.2 then (rgt x.1, decide (¬ HasR x.1)) else (lft x.1, decide (HasL x.1))
theorem signalOf_bijective : Function.Bijective signalOf :=
  (Fintype.bijective_iff_injective_and_card _).mpr ⟨by unfold Function.Injective; decide, rfl⟩

omit [FloatOps F] in
/-- Over both duties of a barrier. -/
theorem both (Φ : Bool → sProp 𝕄) : bigSep Finset.univ Φ = iprop(Φ false ∗ Φ true) := bigSep_univ_eq_bigSepL [false, true] (by decide) (by decide) Φ

omit [FloatOps F] in
/-- The barriers' tokens, dealt to the devices that signal. -/
theorem barToks : (bigSep Finset.univ fun c : Dev nD => iprop(dutyTok ER (barCell c) 0 false ∗ dutyTok ER (barCell c) 0 true) : sProp 𝕄)
    = bigSep Finset.univ fun c : Dev nD => iprop(dutyTok ER (barCell (lft c)) 0 (decide (HasL c)) ∗ dutyTok ER (barCell (rgt c)) 0 (decide (¬ HasR c))) := by
  have h (Φ : Dev nD × Bool → sProp 𝕄) : (bigSep Finset.univ fun c : Dev nD => iprop(Φ (c, false) ∗ Φ (c, true))) = bigSep Finset.univ Φ := by
    rw [bigSep_univ_prod]; exact bigSep_congr fun c _ => (both fun b => Φ (c, b)).symm
  rw [h fun x => dutyTok ER (barCell x.1) 0 x.2, bigSep_univ_equiv (Equiv.ofBijective signalOf signalOf_bijective), bigSep_univ_prod]
  exact bigSep_congr fun c _ => both _

omit [FloatOps F] in
/-- Every token goes to the device that pays with it. -/
theorem toks_dealt : (bigSep Finset.univ fun c : Dev nD => (ownToks c : sProp 𝕄)) ⊢ bigSep Finset.univ fun c : Dev nD => payToks c := by
  have hpay (c : Dev nD) : (payToks c : sProp 𝕄)
      = iprop((dutyTok ER (barCell (lft c)) 0 (decide (HasL c)) ∗ dutyTok ER (barCell (rgt c)) 0 (decide (¬ HasR c)))
        ∗ dutyTok ER (sndRCell c) 0 false ∗ dutyTok ER (sndLCell c) 0 false ∗ dutyTok ER (rcvLCell (nxt c)) 0 false ∗ dutyTok ER (rcvRCell (prv c)) 0 false) := by
    unfold payToks; exact sep_assoc'.antisymm sep_assoc
  rw [bigSep_congr (s := Finset.univ) fun (c : Dev nD) _ => hpay c]
  unfold ownToks
  simp only [bigSep_sep' Finset.univ (fun c : Dev nD => iprop(dutyTok ER (barCell c) 0 false ∗ dutyTok ER (barCell c) 0 true)), barToks,
    bigSep_sep' Finset.univ (fun c : Dev nD => iprop(dutyTok ER (barCell (lft c)) 0 (decide (HasL c)) ∗ dutyTok ER (barCell (rgt c)) 0 (decide (¬ HasR c)))),
    bigSep_sep' Finset.univ (fun c : Dev nD => dutyTok ER (sndRCell c) 0 false), bigSep_sep' Finset.univ (fun c : Dev nD => dutyTok ER (sndLCell c) 0 false),
    bigSep_sep' Finset.univ (fun c : Dev nD => dutyTok ER (rcvLCell c) 0 false), bigSep_sep' Finset.univ (fun c : Dev nD => dutyTok ER (rcvLCell (nxt c)) 0 false)]
  rw [bigSep_univ_equiv ring (fun c : Dev nD => (dutyTok ER (rcvLCell c) 0 false : sProp 𝕄)),
    bigSep_univ_equiv ring.symm (fun c : Dev nD => (dutyTok ER (rcvRCell c) 0 false : sProp 𝕄))]
  exact Entails.refl _

/-! ## The credits -/

theorem at_iff {a b : Dev nD} (q : SemLoc sig) : (((a : Thread nD τ), q) : GSem nD τ sig) = ((b : Thread nD τ), q) ↔ a = b :=
  ⟨fun h => congrArg (fun g : GSem nD τ sig => g.1.1) h, fun h => h ▸ rfl⟩

/-- A tally at one semaphore, read at a device's semaphore: there if it is that device's, elsewhere nothing. -/
theorem tally_same (a b : Dev nD) (q : SemLoc sig) (n : ℕ) :
    (tallyAt ((a : Thread nD τ), q) () n : CellTallies nD τ sig Unit) ((b : Thread nD τ), q) () = if a = b then n else 0 := by
  rw [tallyAt_apply]
  by_cases h : a = b
  · rw [if_pos h, if_pos ⟨(at_iff q).mpr h.symm, rfl⟩]
  · rw [if_neg h, if_neg fun h' => h ((at_iff q).mp h'.1).symm]
theorem tally_other (a b : Dev nD) {q q' : SemLoc sig} (hq : q' ≠ q) (n : ℕ) :
    (tallyAt ((a : Thread nD τ), q) () n : CellTallies nD τ sig Unit) ((b : Thread nD τ), q') () = 0 := by
  rw [tallyAt_apply, if_neg fun h' => hq (congrArg Prod.snd h'.1)]

/-- What device `d` owes at launch, one cell of device `c` at a time. -/
theorem owed_at (d : Dev nD) (g : GSem nD τ sig) :
    O₀ d g () = (tallyAt (rcvRCell (prv d)) () (if HasL d then N else 0) : CellTallies nD τ sig Unit) g ()
      + (tallyAt (rcvLCell (nxt d)) () (if HasR d then N else 0) : CellTallies nD τ sig Unit) g ()
      + (tallyAt (barCell (rgt d)) () 1 : CellTallies nD τ sig Unit) g () + (tallyAt (barCell (lft d)) () 1 : CellTallies nD τ sig Unit) g () := rfl
theorem owed_bar (d c : Dev nD) : O₀ d (barCell c) () = (if rgt d = c then 1 else 0) + (if lft d = c then 1 else 0) := by
  rw [owed_at, tally_other _ _ (by decide), tally_other _ _ (by decide), tally_same, tally_same, Nat.zero_add]
theorem owed_rcvL (d c : Dev nD) : O₀ d (rcvLCell c) () = if nxt d = c then (if HasR d then N else 0) else 0 := by
  rw [owed_at, tally_other (q := .dma rcvR) _ _ (by decide), tally_other (q := .reg barS) (rgt d) _ (by decide), tally_other (q := .reg barS) (lft d) _ (by decide), tally_same, Nat.zero_add]; rfl
theorem owed_rcvR (d c : Dev nD) : O₀ d (rcvRCell c) () = if prv d = c then (if HasL d then N else 0) else 0 := by
  rw [owed_at, tally_other (q := .dma rcvL) _ _ (by decide), tally_other (q := .reg barS) (rgt d) _ (by decide), tally_other (q := .reg barS) (lft d) _ (by decide), tally_same]; rfl

theorem signals_of : ∀ c : Dev nD, (∑ d : Dev nD, ((if rgt d = c then 1 else 0) + (if lft d = c then 1 else 0))) = 2 := by decide

theorem launched (c : Dev nD) (q : SemLoc sig) (n : ℕ) (h : ∑ d : Dev nD, O₀ d ((c : Thread nD τ), q) () = n) :
    tallyOn ((c : Thread nD τ), q) (launchCredit (Pipeline.owing O₀) 0 ((c : Thread nD τ), q)) = (tallyAt ((c : Thread nD τ), q) () n : CellTallies nD τ sig Unit) := by
  unfold tallyAt; refine congrArg _ (Finsupp.ext fun u => ?_); cases u
  rw [Pipeline.launchCredit_owing, Finsupp.single_eq_same, h]

theorem launched_bar (c : Dev nD) :
    tallyOn (((c : Thread nD τ), SemLoc.reg barS) : GSem nD τ sig) (launchCredit (Pipeline.owing O₀) 0 ((c : Thread nD τ), SemLoc.reg barS)) = (tallyAt ((c : Thread nD τ), SemLoc.reg barS) () 2 : CellTallies nD τ sig Unit) :=
  launched c (.reg barS) 2 ((Finset.sum_congr rfl fun d _ => owed_bar d c).trans (signals_of c))
theorem launched_rcvL (c : Dev nD) :
    tallyOn (((c : Thread nD τ), SemLoc.dma rcvL) : GSem nD τ sig) (launchCredit (Pipeline.owing O₀) 0 ((c : Thread nD τ), SemLoc.dma rcvL)) = (tallyAt ((c : Thread nD τ), SemLoc.dma rcvL) () (if HasL c then N else 0) : CellTallies nD τ sig Unit) :=
  launched c (.dma rcvL) (if HasL c then N else 0) (by
  rw [Finset.sum_congr rfl fun d _ => owed_rcvL d c, Finset.sum_eq_single (prv c) (fun d _ h => if_neg fun h' => h (by rw [← h', prv_nxt])) (fun h => absurd (Finset.mem_univ _) h),
    if_pos (nxt_prv c)]
  exact if_congr (hasR_prv c) rfl rfl)
theorem launched_rcvR (c : Dev nD) :
    tallyOn (((c : Thread nD τ), SemLoc.dma rcvR) : GSem nD τ sig) (launchCredit (Pipeline.owing O₀) 0 ((c : Thread nD τ), SemLoc.dma rcvR)) = (tallyAt ((c : Thread nD τ), SemLoc.dma rcvR) () (if HasR c then N else 0) : CellTallies nD τ sig Unit) :=
  launched c (.dma rcvR) (if HasR c then N else 0) (by
  rw [Finset.sum_congr rfl fun d _ => owed_rcvR d c, Finset.sum_eq_single (nxt c) (fun d _ h => if_neg fun h' => h (by rw [← h', nxt_prv])) (fun h => absurd (Finset.mem_univ _) h),
    if_pos (prv_nxt c)]
  exact if_congr (hasL_nxt c) rfl rfl)

omit [FloatOps F] in
/-- A device's launch credit holds what its waits need. -/
theorem creds_of (c : Dev nD) : (Pipeline.launchCred O₀ c : sProp 𝕄) ⊢ creds c := by
  unfold Pipeline.launchCred creds
  rw [← launched_bar, ← launched_rcvL, ← launched_rcvR, bigSep_univ_at _ (SemLoc.reg barS)]
  refine sep_mono_right ?_
  rw [bigSep_erase (i := SemLoc.dma rcvL) (Finset.mem_erase.mpr ⟨by decide, Finset.mem_univ _⟩)]
  exact sep_mono_right (bigSep_elim (Finset.mem_erase.mpr ⟨by decide, Finset.mem_erase.mpr ⟨by decide, Finset.mem_univ _⟩⟩))

end Cert.KernelIdeal.Halo

end
-- ==== Proof.KernelIdeal.Run.lean ====
/-
  The launch of all four devices, and what every run ends with.
-/
module

public import proofs.«01_k».proof.Proof.KernelIdeal.Deal
public import Idealize.ShloMosaic.Lib.Pipeline.CollectiveSegs

@[expose] public section

noncomputable section

namespace Cert.KernelIdeal.Halo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## From the launch element to every device's start -/

def u₀ : UU := (initOf (Pipeline.cells cfgs cellOf_inj) (Pipeline.launchToks cfgs cellOf_inj), initOf allCells allToks)

/-- A device's share of the launch element: its cells' round states, its positions, what each has reached, its tokens. -/
def G (c : Dev nD) : sProp 𝕄 :=
  iprop((bigSep Finset.univ fun k : Fin 5 => roundState ER (rd m) (kcell (c, k)) 0) ∗ (bigSep Finset.univ fun k : Fin 5 => atPos ER (kcell (c, k)) 0 ∅ 0)
    ∗ (bigSep Finset.univ fun k : Fin 5 => reached ER (kcell (c, k)) 0) ∗ ownToks c)

omit [FloatOps F] in
theorem five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
omit [FloatOps F] in
theorem six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

omit [FloatOps F] in
theorem over_cells (Φ : GSem nD τ sig → sProp 𝕄) :
    bigSep allCells Φ = bigSep Finset.univ fun c : Dev nD => bigSep Finset.univ fun k : Fin 5 => Φ (kcell (c, k)) := by
  unfold allCells; rw [bigSep_map, bigSep_univ_prod]; rfl
omit [FloatOps F] in
theorem over_toks : bigSep allToks (fun x => (dutyTok ER x.1 x.2.1 x.2.2 : sProp 𝕄)) = bigSep Finset.univ fun c : Dev nD => ownToks c := by
  unfold allToks; rw [bigSep_map, bigSep_univ_prod]
  exact bigSep_congr fun c _ => by unfold ownToks; rw [six]; exact sep_assoc'.antisymm sep_assoc

omit [FloatOps F] in
theorem fund_all : BI.own (ER (initOf allCells allToks)) ⊢ (|==> bigSep Finset.univ (G m) : sProp 𝕄) := by
  iintro H
  imod (Rounds.fund ER (rd m) allCells allToks) $$ H with ⟨Hst, Hr, Hat, Ht⟩
  imodintro
  ihave Hst := (Entails.of_eq (over_cells fun g => roundState ER (rd m) g 0)) $$ Hst
  ihave Hat := (Entails.of_eq (over_cells fun g => atPos ER g 0 ∅ 0)) $$ Hat
  ihave Hr := (Entails.of_eq (over_cells fun g => reached ER g 0)) $$ Hr
  ihave Ht := (Entails.of_eq over_toks) $$ Ht
  unfold G; simp only [bigSep_sep']
  isplitl [Hst]; · iexact Hst
  isplitl [Hat]; · iexact Hat
  isplitl [Hr] <;> iassumption

theorem ownSemFacts : Pipeline.OwnSemFacts cfg0.spec osem := by decide

omit [FloatOps F] in
theorem ownSems_eq (c : Dev nD) : (Pipeline.ownSems0 (Ix := Unit) (Name := ℕ) (U := UU) (Lvl := ℕ) (Val := Elt F) (τ := τ) osem c : sProp 𝕄)
    = iprop(semVal (sndRCell c) 0 ∗ semVal (sndLCell c) 0 ∗ semVal (rcvLCell c) 0 ∗ semVal (rcvRCell c) 0) := by
  rw [Pipeline.ownSems0_eq_of_list c osem [0, 1, 2, 3] (by decide) (by decide)]; rfl
omit [FloatOps F] in
theorem barSem_eq (c : Dev nD) : (unscopedSems0 c : sProp 𝕄) = semVal (barCell c) 0 := by
  unfold unscopedSems0; rw [bigSep_eq_bigSepL_of_eq [SemLoc.reg barS] (by decide) (by decide)]; rfl
omit [FloatOps F] in
theorem sems_eq (c : Dev nD) : (iprop(unscopedSems0 c ∗ Pipeline.ownSems0 (Ix := Unit) (Name := ℕ) (U := UU) (Lvl := ℕ) (Val := Elt F) (τ := τ) osem c) : sProp 𝕄)
    = bigSep Finset.univ fun k : Fin 5 => semVal (kcell (c, k)) 0 := by
  rw [ownSems_eq, barSem_eq, five]

/-- What each device contributes: its cells' invariants, each under a name, its positions, what is reached, its tokens. -/
def opened (c : Dev nD) : sProp 𝕄 :=
  iprop((bigSep Finset.univ fun k : Fin 5 => iprop(∃ κ : ℕ, cellInv ER (rd m) κ (kcell (c, k)))) ∗ (bigSep Finset.univ fun k : Fin 5 => atPos ER (kcell (c, k)) 0 ∅ 0)
    ∗ (bigSep Finset.univ fun k : Fin 5 => reached ER (kcell (c, k)) 0) ∗ ownToks c)

omit [FloatOps F] in
theorem alloc_device (c : Dev nD) :
    iprop(Pipeline.ownSems0 (Ix := Unit) (Name := ℕ) (U := UU) (Lvl := ℕ) (Val := Elt F) (τ := τ) osem c ∗ unscopedSems0 c ∗ G m c)
      ⊢ |={Set.univ}=> opened m c := by
  have alloc : iprop((bigSep Finset.univ fun k : Fin 5 => semVal (kcell (c, k)) 0) ∗ bigSep Finset.univ fun k : Fin 5 => roundState ER (rd m) (kcell (c, k)) 0)
      ⊢ (|={Set.univ}=> bigSep Finset.univ fun k : Fin 5 => iprop(∃ κ : ℕ, cellInv ER (rd m) κ (kcell (c, k))) : sProp 𝕄) := by
    rw [← bigSep_sep']
    exact (bigSep_mono fun k _ => (Rounds.body_intro ER (rd m) (kcell (c, k))).trans inv_alloc).trans (bigSep_fupd _ _)
  unfold G opened
  iintro ⟨Hos, Hus, Hst, Hat, Hr, Ht⟩
  ihave Hv := (Entails.of_eq (sems_eq (F := F) c)) $$ [Hos Hus]
  · isplitl [Hus] <;> iassumption
  imod alloc $$ [Hv Hst] with HI
  · isplitl [Hv] <;> iassumption
  imodintro
  isplitl [HI]; · iexact HI
  isplitl [Hat]; · iexact Hat
  isplitl [Hr] <;> iassumption

omit [FloatOps F] in
/-- A device takes its positions and tokens beside the records, which every device shares. -/
theorem take (K : Dev nD × Fin 5 → ℕ) (c : Dev nD) :
    iprop(records m K ∗ (bigSep Finset.univ fun k : Fin 5 => atPos ER (kcell (c, k)) 0 ∅ 0) ∗ payToks c) ⊢ G' m c := by
  unfold G' ats
  rw [five]
  iintro ⟨#HR, Hat, Ht⟩
  iexists K
  isplitr; · iexact HR
  isplitl [Hat] <;> iassumption

omit [FloatOps F] in
theorem take_all (K : Dev nD × Fin 5 → ℕ) :
    iprop(records m K ∗ (bigSep Finset.univ fun c : Dev nD => bigSep Finset.univ fun k : Fin 5 => atPos ER (kcell (c, k)) 0 ∅ 0)
        ∗ (bigSep Finset.univ fun c : Dev nD => payToks c)) ⊢ bigSep Finset.univ (G' m) := by
  rw [← bigSep_sep']
  refine (sep_mono_left (BI.bigSep_of_persistent (Finset.univ : Finset (Dev nD)) (records m K))).trans ?_
  rw [← bigSep_sep']
  exact bigSep_mono fun c _ => take m K c

omit [FloatOps F] in
theorem open_all : (bigSep Finset.univ (opened m) : sProp 𝕄) ⊢ bigSep Finset.univ (G' m) := by
  unfold opened
  simp only [bigSep_sep']
  rw [← bigSep_univ_prod (fun ck : Dev nD × Fin 5 => iprop(∃ κ : ℕ, cellInv ER (rd m) κ (kcell ck))),
    ← bigSep_univ_prod (fun ck : Dev nD × Fin 5 => (reached ER (kcell ck) 0 : sProp 𝕄))]
  iintro ⟨HI, Hat, #Hr, Ht⟩
  ihave HK := (BI.bigSep_exists_pi Finset.univ (fun (ck : Dev nD × Fin 5) (κ : ℕ) => (cellInv ER (rd m) κ (kcell ck) : sProp 𝕄))) $$ HI
  icases HK with ⟨%K, #HI⟩
  ihave Ht := (toks_dealt (F := F)) $$ Ht
  iapply (take_all m K)
  isplitr
  · unfold records; isplitl; · iexact HI
    iexact Hr
  isplitl [Hat]; · iexact Hat
  iexact Ht

omit [FloatOps F] in
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc_device m c).trans (bigSep_fupd _ _)).trans (BI.fupd_mono (open_all m))

/-! ## The launch theorem's side conditions -/

theorem share_eq (c : Dev nD) (w : Fin cfg0.W) : (dats m 0 c).share w = fullShare := by unfold Dat.share; split <;> rfl

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_of (F := F) c) $$ Hcr
  imodintro
  unfold start
  isplitl
  · isplitl [HG]; · iexact HG
    isplitl [Hc] <;> iassumption
  · iempintro

omit [FloatOps F] in
/-- The two scratch buffers are the four slots. -/
theorem slots_eq (c : Dev nD) : (Pipeline.scopedRest (Ix := Unit) (Name := ℕ) (U := UU) (Lvl := ℕ) (Val := Elt F) spec0 c : sProp 𝕄) = slots c := by
  have e : (slots c : sProp 𝕄) = iprop((anySlot slotL c ∗ anySlot slotR c) ∗ anySlot outR c ∗ anySlot outL c) := by
    unfold slots; exact sep_assoc'.antisymm sep_assoc
  rw [scopedRest0_eq, e, Entails.antisymm (halo_split c).1 (halo_split c).2, Entails.antisymm (rows_split c).1 (rows_split c).2]

theorem at_start (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, slots_eq]
  unfold Φ₀
  iintro ⟨Hs, -, Hr⟩
  isplitl [Hs] <;> iassumption

theorem at_end (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, slots_eq, ownSems_eq, barSem_eq]
  unfold Φ₁
  iintro ⟨Hs, Hb, Hz⟩
  isplitl [Hb]; · iexact Hb
  isplitl [Hz] <;> iassumption

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## Every run -/

/-- A window's array at the end. -/
def finalA (c : Dev nD) (w : Fin cfg0.W) : Buf (Elt F) ((cfg0.win w).arr.view.loc (c : Thread nD τ)) := (dats m 0 c).arrAt w cfg0.N

/-- Every final state has each device's arrays at those contents. -/
def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- Every run of the four devices ends, with each device's arrays at those contents and every semaphore at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := at_start m) (hout := at_end m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The array of `x` is unchanged. -/
theorem finalA_x (c : Dev nD) : finalA m c (0 : Fin 2) = m (win0_0.arr.view.loc (c : Thread nD τ)) :=
  (dats (F := F) m 0 c).arrAt_in (0 : Fin 2) rfl _

omit [FloatOps F] in
/-- Reading the one block of `x`, or of the result, is reading the array. -/
theorem whole_x (f : main_arg0.ty.Contents (Elt F)) : (win0_0.blk (0 : Fin 1)).view.read (Elt F) f = f :=
  Memref.read_access_unit_zero (Elt F) main_arg0 (off := fun a => (win0_0.index (0 : Fin 1)) a * main_arg0.ty.shape.size a)
    (funext fun a => by fin_cases a <;> decide) (fun a => by fin_cases a <;> decide) f
omit [FloatOps F] in
theorem whole_out (f : main_v1.ty.Contents (Elt F)) : (win0_1.blk (0 : Fin 1)).view.read (Elt F) f = f :=
  Memref.read_access_unit_zero (Elt F) main_v1 (off := fun a => (win0_1.index (0 : Fin 1)) a * main_v1.ty.shape.size a)
    (funext fun a => by fin_cases a <;> decide) (fun a => by fin_cases a <;> decide) f

omit [FloatOps F] in
/-- A device's staged block of `x` is its whole array of `x`. -/
theorem xstg_eq (c : Dev nD) : xstg m c = m ((c : Thread nD τ).loc main_arg0) := whole_x _

/-- The result array is the result block. -/
theorem finalA_out (c : Dev nD) : finalA m c (1 : Fin 2) = outAt m c := by
  have h : (win0_1.blk (0 : Fin 1)).view.read (Elt F) (finalA m c (1 : Fin 2)) = outAt m c := by
    unfold finalA
    rw [show cfg0.N = ((0 : Fin 1) : Fin cfg0.N).val + 1 from rfl, (dats m 0 c).arrAt_succ (1 : Fin 2) (0 : Fin 1),
      show (cfg0.win (1 : Fin 2)).flush (0 : Fin 1) = true from by decide, if_pos rfl]
    exact View.read_write_univ _ _
  exact (whole_out _).symm.trans h

end Cert.KernelIdeal.Halo

end
-- ==== Proof.Stencil.lean ====
/-
  The values: each device's result block is its block of the whole array's three-point stencil.

  Both programs are read over the extended reals. The reference weighs a row's three neighbours one by one; the kernel
  adds the two outer ones first and weighs their sum. A nonnegative real weight distributes over a sum of extended reals,
  so the two agree at every input.
-/
module

public import proofs.«01_k».proof.Proof.KernelIdeal.Run
public import proofs.«01_k».proof.Proof.Gen.ReferenceIdeal.Run
public import Idealize.ShloMosaic.Lib.Pipeline.Value
public import Idealize.ShloMosaic.Lib.Layout
public import Idealize.ShloMosaic.PureOps.Ideal

@[expose] public section

noncomputable section

namespace Cert.Stencil

open Cert.KernelIdeal Cert.KernelIdeal.Gen Cert.KernelIdeal.Halo
open Idealize.ShloMosaic Idealize.ShloMosaic.TcCoe

/-! ## The weights -/

abbrev quarter : EReal := ((1 / 4 : ℝ) : EReal)
abbrev half : EReal := ((1 / 2 : ℝ) : EReal)

theorem quarter_bf16 : (Ideal.ofBits .bf16 0x3E80#16 : EReal) = quarter := by
  simp [Ideal.ofBits, Ideal.ieee, -EReal.coe_mul]; norm_num
theorem half_bf16 : (Ideal.ofBits .bf16 0x3F00#16 : EReal) = half := by
  simp [Ideal.ofBits, Ideal.ieee, -EReal.coe_mul]; norm_num
theorem quarter_f32 : (Ideal.ofBits .f32 0x3E800000#32 : EReal) = quarter := by
  simp [Ideal.ofBits, Ideal.ieee, -EReal.coe_mul]; norm_num
theorem half_f32 : (Ideal.ofBits .f32 0x3F000000#32 : EReal) = half := by
  simp [Ideal.ofBits, Ideal.ieee, -EReal.coe_mul]; norm_num

/-- Weighing a sum is weighing its terms. -/
theorem weigh (a b c : EReal) : quarter * (a + b) + half * c = quarter * a + half * c + quarter * b := by
  rw [EReal.left_distrib_of_nonneg_of_ne_top (EReal.coe_nonneg.mpr (by norm_num)) (EReal.coe_ne_top _), add_right_comm]

/-! ## The stencil of the whole array -/

/-- The whole array's shape; its element at row `r`, zero past the last row. -/
abbrev Whole : Shape := ⟨2, ![4096, 512]⟩
def elt (x : Whole.Idx → EReal) (r : ℕ) (j : Fin 512) : EReal := if h : r < 4096 then x (at2 (h := 4096) ⟨r, h⟩ j) else 0
theorem elt_eq (x : Whole.Idx → EReal) (y : Whole.Idx) {r : ℕ} {j : Fin 512} (hr : (y 0).val = r) (hj : (y 1).val = j.val) : x y = elt x r j := by
  subst hr
  unfold elt
  rw [dif_pos (show (y 0).val < 4096 from (y 0).isLt)]
  exact congrArg x (funext fun a => by fin_cases a; exacts [rfl, Fin.ext hj])

/-- The stencil at row `r`: the first and the last row are kept. -/
def sten (x : Whole.Idx → EReal) (r : ℕ) (j : Fin 512) : EReal :=
  if r = 0 ∨ r = 4095 then elt x r j else quarter * elt x (r - 1) j + half * elt x r j + quarter * elt x (r + 1) j

/-- A device's share of the rows tiles the whole array. -/
theorem tiles : Layout.Tiles ⟨2, ![1024, 512]⟩ Whole 0 4 := by decide

/-! ## The reference -/

section Ref
variable (x : Whole.Idx → EReal)

/-- The reference's result, as its operations compose. -/
abbrev refInner : (⟨2, ![4094, 512]⟩ : Shape).Idx → Ideal .f32 :=
  addf (addf (mulf (broadcastInDim Cert.ReferenceIdeal.S4094x512 ![] Cert.ReferenceIdeal.Gen.facts.bcast_S_S4094x512 (constant (F := Ideal) Cert.ReferenceIdeal.S_ .f32 0x3E800000#32))
      (extractStridedSlice Cert.ReferenceIdeal.S4094x512 ![0, 0] (extf (F := Ideal) (φ := .bf16) .f32 x Cert.ReferenceIdeal.Gen.facts.bitsLt_bf16_f32) Cert.ReferenceIdeal.Gen.facts.slices_S4096x512_S4094x512_0_0))
    (mulf (broadcastInDim Cert.ReferenceIdeal.S4094x512 ![] Cert.ReferenceIdeal.Gen.facts.bcast_S_S4094x512 (constant (F := Ideal) Cert.ReferenceIdeal.S_ .f32 0x3F000000#32))
      (extractStridedSlice Cert.ReferenceIdeal.S4094x512 ![1, 0] (extf (F := Ideal) (φ := .bf16) .f32 x Cert.ReferenceIdeal.Gen.facts.bitsLt_bf16_f32) Cert.ReferenceIdeal.Gen.facts.slices_S4096x512_S4094x512_1_0)))
    (mulf (broadcastInDim Cert.ReferenceIdeal.S4094x512 ![] Cert.ReferenceIdeal.Gen.facts.bcast_S_S4094x512 (constant (F := Ideal) Cert.ReferenceIdeal.S_ .f32 0x3E800000#32))
      (extractStridedSlice Cert.ReferenceIdeal.S4094x512 ![2, 0] (extf (F := Ideal) (φ := .bf16) .f32 x Cert.ReferenceIdeal.Gen.facts.bitsLt_bf16_f32) Cert.ReferenceIdeal.Gen.facts.slices_S4096x512_S4094x512_2_0))
abbrev refRow (k : ℕ) (h : Cert.ReferenceIdeal.S4096x512.Slices ![k, 0] Cert.ReferenceIdeal.S1x512) : (⟨2, ![1, 512]⟩ : Shape).Idx → Ideal .f32 :=
  extractStridedSlice Cert.ReferenceIdeal.S1x512 ![k, 0] (extf (F := Ideal) (φ := .bf16) .f32 x Cert.ReferenceIdeal.Gen.facts.bitsLt_bf16_f32) h
abbrev refParts : List ((s : Shape) × (s.Idx → Ideal .f32)) :=
  [⟨Cert.ReferenceIdeal.S1x512, refRow x 0 Cert.ReferenceIdeal.Gen.facts.slices_S4096x512_S1x512_0_0⟩, ⟨Cert.ReferenceIdeal.S4094x512, refInner x⟩,
    ⟨Cert.ReferenceIdeal.S1x512, refRow x 4095 Cert.ReferenceIdeal.Gen.facts.slices_S4096x512_S1x512_4095_0⟩]
def refOut : Whole.Idx → EReal :=
  truncf (F := Ideal) (φ := .f32) .bf16 (concatenate Cert.ReferenceIdeal.S4096x512 0 (refParts x) Cert.ReferenceIdeal.Gen.facts.concatenates_S1x512_S4094x512_S1x512_S4096x512_d0)
    Cert.ReferenceIdeal.Gen.facts.bitsLt_bf16_f32

theorem refInner_at (i : (⟨2, ![4094, 512]⟩ : Shape).Idx) :
    refInner x i = quarter * elt x (i 0).val (i 1) + half * elt x ((i 0).val + 1) (i 1) + quarter * elt x ((i 0).val + 2) (i 1) := by
  rw [← quarter_f32, ← half_f32]
  have hi (k : ℕ) (y : Whole.Idx) (h₀ : (y 0).val = k + (i 0).val) (h₁ : (y 1).val = 0 + (i 1).val) : x y = elt x ((i 0).val + k) (i 1) :=
    elt_eq x y (by omega) (by omega)
  exact congrArg₂ (· + ·) (congrArg₂ (· + ·) (congrArg _ (hi 0 _ rfl rfl)) (congrArg _ (hi 1 _ rfl rfl))) (congrArg _ (hi 2 _ rfl rfl))
theorem refRow_at (k : ℕ) (h : Cert.ReferenceIdeal.S4096x512.Slices ![k, 0] Cert.ReferenceIdeal.S1x512) (i : (⟨2, ![1, 512]⟩ : Shape).Idx) :
    refRow x k h i = elt x k (i 1) := by
  have h₀ : (i 0).val = 0 := Nat.lt_one_iff.mp (i 0).isLt
  have hi (y : Whole.Idx) (hy₀ : (y 0).val = k + (i 0).val) (hy₁ : (y 1).val = 0 + (i 1).val) : x y = elt x k (i 1) :=
    elt_eq x y (by omega) (by omega)
  exact hi _ rfl rfl

/-- The reference is the stencil. -/
theorem refOut_at (y : Whole.Idx) : refOut x y = sten x (y 0).val (y 1) := by
  have hy : (y 0).val < 4096 := (y 0).isLt
  unfold sten
  show concatenate Cert.ReferenceIdeal.S4096x512 0 (refParts x) Cert.ReferenceIdeal.Gen.facts.concatenates_S1x512_S4094x512_S1x512_S4096x512_d0 y = _
  by_cases h₀ : (y 0).val = 0
  · rw [if_pos (.inl h₀)]
    refine (concatenate_apply_piece 0 (refParts x) _ y 0 (show 0 < 3 by decide) _ (refRow x 0 _) rfl rfl 0 rfl (at2 (h := 1) 0 (y 1)) ?_ ?_).trans
      ((refRow_at x 0 _ _).trans (by rw [h₀]; rfl))
    · intro b hb; fin_cases b
      · exact absurd rfl hb
      · rfl
    · show 0 + 0 = (y 0).val; omega
  · by_cases h₁ : (y 0).val = 4095
    · rw [if_pos (.inr h₁)]
      refine (concatenate_apply_piece 0 (refParts x) _ y 2 (show 2 < 3 by decide) _ (refRow x 4095 _) rfl rfl 4095 rfl (at2 (h := 1) 0 (y 1)) ?_ ?_).trans
        ((refRow_at x 4095 _ _).trans (by rw [h₁]; rfl))
      · intro b hb; fin_cases b
        · exact absurd rfl hb
        · rfl
      · show 4095 + 0 = (y 0).val; omega
    · rw [if_neg (by omega)]
      refine (concatenate_apply_piece 0 (refParts x) _ y 1 (show 1 < 3 by decide) _ (refInner x) rfl rfl 1 rfl (at2 (h := 4094) ⟨(y 0).val - 1, by omega⟩ (y 1)) ?_ ?_).trans
        ((refInner_at x _).trans ?_)
      · intro b hb; fin_cases b
        · exact absurd rfl hb
        · rfl
      · show 1 + ((y 0).val - 1) = (y 0).val; omega
      · show quarter * elt x ((y 0).val - 1) (y 1) + half * elt x ((y 0).val - 1 + 1) (y 1) + quarter * elt x ((y 0).val - 1 + 2) (y 1) = _
        rw [show (y 0).val - 1 + 1 = (y 0).val by omega, show (y 0).val - 1 + 2 = (y 0).val + 1 by omega]

end Ref

/-! ## The kernel -/

section Kernel
variable (m : (ℓ : Loc nD τ sig) → Buf (Elt Ideal) ℓ) (x : Whole.Idx → EReal)
  (hx : ∀ c : Dev nD, m ((c : Thread nD τ).loc main_arg0) = Layout.block ⟨2, ![1024, 512]⟩ ⟨2, ![4096, 512]⟩ 0 4 c x tiles)
include hx

/-- A device's block of `x`: row `k` is the whole array's row `1024 c + k`. -/
theorem block_at (c : Dev nD) (y : S1024x512.Idx) {r : ℕ} {j : Fin 512} (hr : c.val * 1024 + (y 0).val = r) (hj : (y 1).val = j.val) :
    xstg m c y = elt x r j := by
  rw [xstg_eq, hx c]
  exact elt_eq x _ hr hj

/-- The inner rows. -/
theorem inner_at (c : Dev nD) (i : S1022x512.Idx) :
    innerRows m c i = quarter * elt x (c.val * 1024 + (i 0).val) (i 1) + half * elt x (c.val * 1024 + (i 0).val + 1) (i 1)
      + quarter * elt x (c.val * 1024 + (i 0).val + 2) (i 1) := by
  have hi (k : ℕ) (y : S1024x512.Idx) (h₀ : (y 0).val = k + 1 * (i 0).val) (h₁ : (y 1).val = 0 + 1 * (i 1).val) :
      xstg m c y = elt x (c.val * 1024 + (i 0).val + k) (i 1) := block_at m x hx c y (by omega) (by omega)
  have e : innerRows m c i = Ideal.ofBits .bf16 0x3E80#16 * (above (xstg m c) i + below (xstg m c) i) + Ideal.ofBits .bf16 0x3F00#16 * middle (xstg m c) i := by
    unfold innerRows k0_pay1 k0_pay8 k0_pay9 k0_pay10
    simp only [shapeCast_id]
    rfl
  rw [e, quarter_bf16, half_bf16]
  refine (weigh _ _ _).trans ?_
  exact congrArg₂ (· + ·) (congrArg₂ (· + ·) (congrArg _ (hi 0 _ rfl rfl)) (congrArg _ (hi 1 _ rfl rfl))) (congrArg _ (hi 2 _ rfl rfl))

/-- One row of a device's block. -/
theorem row_at (c : Dev nD) (k : ℕ) (inb : ∀ a, (![k, 0] : Fin 2 → ℕ) a + S1x512.size a ≤ S1024x512.size a) (j : Fin 512) {r : ℕ} (hr : c.val * 1024 + k = r) :
    rowOf (xstg m c) k inb (at2 0 j) = elt x r j :=
  block_at m x hx c _ (by show c.val * 1024 + (k + 1 * 0) = r; omega) (by show 0 + 1 * j.val = j.val; omega)

/-- The first row: on the first device its own, elsewhere the stencil over the left neighbour's last row. -/
theorem top_at (c : Dev nD) (j : Fin 512) : topRow m c (at2 0 j) = sten x (c.val * 1024) j := by
  have hc : c.val < 4 := c.isLt
  unfold topRow sten
  by_cases h : HasL c
  · have hv : ∀ c : Dev nD, HasL c → (prv c).val * 1024 + 1023 = c.val * 1024 - 1 := by decide
    rw [if_pos h, if_neg (by have : 0 < c.val := h; omega)]
    have e : k0_pay2 (asSlab (fromL m c)) (rowOf (xstg m c) 1 inb_S1024x512_S1x512_1_0) (rowOf (xstg m c) 0 inb_S1024x512_S1x512_0_0) (at2 0 j)
        = Ideal.ofBits .bf16 0x3E80#16 * (fromL m c (at2 0 j) + rowOf (xstg m c) 1 inb_S1024x512_S1x512_1_0 (at2 0 j))
          + Ideal.ofBits .bf16 0x3F00#16 * rowOf (xstg m c) 0 inb_S1024x512_S1x512_0_0 (at2 0 j) := by
      unfold k0_pay2
      simp only [shapeCast_comp, shapeCast_id]
      rfl
    rw [e, quarter_bf16, half_bf16]
    refine (weigh _ _ _).trans ?_
    unfold fromL
    rw [row_at m x hx (prv c) 1023 _ j (hv c h), row_at m x hx c 1 _ j rfl, row_at m x hx c 0 _ j rfl]; rfl
  · rw [if_neg h, if_pos (.inl (by have : ¬ 0 < c.val := h; omega))]
    unfold k0_pay3
    simp only [shapeCast_id]
    exact row_at m x hx c 0 _ j rfl

/-- The last row likewise, with the right neighbour's first row. -/
theorem bot_at (c : Dev nD) (j : Fin 512) : botRow m c (at2 0 j) = sten x (c.val * 1024 + 1023) j := by
  have hc : c.val < 4 := c.isLt
  unfold botRow sten
  by_cases h : HasR c
  · have hv : ∀ c : Dev nD, HasR c → (nxt c).val * 1024 + 0 = c.val * 1024 + 1023 + 1 := by decide
    rw [if_pos h, if_neg (by have : c.val < 3 := h; omega)]
    have e : k0_pay4 (rowOf (xstg m c) 1022 inb_S1024x512_S1x512_1022_0) (asSlab (fromR m c)) (rowOf (xstg m c) 1023 inb_S1024x512_S1x512_1023_0) (at2 0 j)
        = Ideal.ofBits .bf16 0x3E80#16 * (rowOf (xstg m c) 1022 inb_S1024x512_S1x512_1022_0 (at2 0 j) + fromR m c (at2 0 j))
          + Ideal.ofBits .bf16 0x3F00#16 * rowOf (xstg m c) 1023 inb_S1024x512_S1x512_1023_0 (at2 0 j) := by
      unfold k0_pay4
      simp only [shapeCast_comp, shapeCast_id]
      rfl
    rw [e, quarter_bf16, half_bf16]
    refine (weigh _ _ _).trans ?_
    unfold fromR
    rw [row_at m x hx (nxt c) 0 _ j (hv c h), row_at m x hx c 1022 _ j rfl, row_at m x hx c 1023 _ j rfl]; rfl
  · rw [if_neg h, if_pos (.inr (by have : ¬ c.val < 3 := h; omega))]
    unfold k0_pay5
    simp only [shapeCast_id]
    exact row_at m x hx c 1023 _ j rfl

/-- Each device's result is its block of the reference's. -/
theorem out_eq (c : Dev nD) : outAt m c = Layout.block ⟨2, ![1024, 512]⟩ ⟨2, ![4096, 512]⟩ 0 4 c (refOut x) tiles := by
  funext y
  have hc : c.val < 4 := c.isLt
  have hy : (y 0).val < 1024 := (y 0).isLt
  rw [Layout.block_apply, refOut_at]
  show outAt m c y = sten x (c.val * 1024 + (y 0).val) (y 1)
  unfold outAt
  by_cases h₀ : (y 0).val = 0
  · rw [blockOf_first _ _ _ _ y h₀, h₀]; exact top_at m x hx c (y 1)
  by_cases h₁ : (y 0).val = 1023
  · rw [blockOf_last _ _ _ _ y h₁, h₁]; exact bot_at m x hx c (y 1)
  rw [blockOf_inner _ _ _ _ y (by omega) (by omega), inner_at m x hx]
  unfold sten
  rw [if_neg (by omega)]
  show quarter * elt x (c.val * 1024 + ((y 0).val - 1)) (y 1) + half * elt x (c.val * 1024 + ((y 0).val - 1) + 1) (y 1)
    + quarter * elt x (c.val * 1024 + ((y 0).val - 1) + 2) (y 1) = _
  rw [show c.val * 1024 + ((y 0).val - 1) = c.val * 1024 + (y 0).val - 1 by omega, show c.val * 1024 + (y 0).val - 1 + 1 = c.val * 1024 + (y 0).val by omega,
    show c.val * 1024 + (y 0).val - 1 + 2 = c.val * 1024 + (y 0).val + 1 by omega]

end Kernel

end Cert.Stencil

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.KernelIdeal.Run
public import proofs.«01_k».proof.Proof.Kernel.Run
public import proofs.«01_k».proof.Proof.Stencil
public import Idealize.ShloMosaic.Lib.Quiescent
public import Idealize.ShloMosaic.Adequacy
public import Idealize.ShloMosaic.Init

@[expose] public section

noncomputable section

namespace Cert.Proof

open Idealize.ShloMosaic Idealize.SL.Sem

/-- The kernel as printed runs, keeps its argument and leaves every counter at zero. -/
theorem frame_kernel : Cert.quiescent_Kernel (hKernel := Cert.Kernel.Gen.facts) := by
  intro m ρ _
  exact (θ_run Cert.Kernel.defs _ _).mono
    (fun _ h => ⟨fun c => (h.1 c (0 : Fin 2)).trans (Cert.Kernel.Halo.finalA_x m c), h.2⟩)
    (Cert.Kernel.Halo.run_main (F := Bits) m ρ)

/-- So does the idealized kernel. -/
theorem frame_ideal : Cert.quiescent_KernelIdeal (hKernelIdeal := Cert.KernelIdeal.Gen.facts) := by
  intro m ρ _
  exact (θ_run Cert.KernelIdeal.defs _ _).mono
    (fun _ h => ⟨fun c => (h.1 c (0 : Fin 2)).trans (Cert.KernelIdeal.Halo.finalA_x m c), h.2⟩)
    (Cert.KernelIdeal.Halo.run_main (F := Ideal) m ρ)

/-- So does the reference, which has no counter at all. -/
theorem frame_reference : Cert.quiescent_ReferenceIdeal (hReferenceIdeal := Cert.ReferenceIdeal.Gen.facts) := by
  intro m ρ _
  exact (θ_run Cert.ReferenceIdeal.defs _ _).mono
    (fun r h => ⟨fun c => (h c).2, sem_eq_zero_of_no_sems (by decide) r.2⟩)
    (Cert.ReferenceIdeal.Value.run (F := Ideal) m ρ)

/-- Each device's result is its block of the reference's result. -/
theorem value : Cert.algebraic_KernelIdeal_ReferenceIdeal (hKernelIdeal := Cert.KernelIdeal.Gen.facts)
    (hReferenceIdeal := Cert.ReferenceIdeal.Gen.facts) := by
  intro m g m' g' _ hm
  refine ⟨Cert.Stencil.refOut (m' (((0 : Dev Cert.ReferenceIdeal.nD).tc : Thread Cert.ReferenceIdeal.nD Cert.ReferenceIdeal.τ).loc Cert.ReferenceIdeal.main_arg0)), ?_, ?_⟩
  · exact (θ_run Cert.KernelIdeal.defs _ _).mono
      (fun _ h c => ⟨((h.1 c (1 : Fin 2)).trans (Cert.KernelIdeal.Halo.finalA_out m c)).trans (Cert.Stencil.out_eq m _ hm c),
        (h.1 c (0 : Fin 2)).trans (Cert.KernelIdeal.Halo.finalA_x m c)⟩)
      (Cert.KernelIdeal.Halo.run_main (F := Ideal) m g)
  · exact (θ_run Cert.ReferenceIdeal.defs _ _).mono (fun _ h => h 0) (Cert.ReferenceIdeal.Value.run (F := Ideal) m' g')

theorem claim : Cert.Claim :=
  ⟨Cert.Kernel.Gen.facts, Cert.KernelIdeal.Gen.facts, Cert.ReferenceIdeal.Gen.facts,
    frame_kernel, frame_ideal, frame_reference, trivial, value⟩

end Cert.Proof

end
